-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "fifth" .f32 0x3E4CCCCD#32 ((1 / 5 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x21x4 : Shape := ⟨3, ![256, 21, 4]⟩
abbrev S10000x21x4 : Shape := ⟨3, ![10000, 21, 4]⟩
abbrev S84x512 : Shape := ⟨2, ![84, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S84x84 : Shape := ⟨2, ![84, 84]⟩
abbrev S21x256x4 : Shape := ⟨3, ![21, 256, 4]⟩
abbrev S256x84 : Shape := ⟨2, ![256, 84]⟩
abbrev S21x4x10000 : Shape := ⟨3, ![21, 4, 10000]⟩
abbrev S_ : Shape := ⟨0, ![]⟩
abbrev S21x4x10240 : Shape := ⟨3, ![21, 4, 10240]⟩
abbrev S21x4x10x1024 : Shape := ⟨4, ![21, 4, 10, 1024]⟩
abbrev S10x21x4x1024 : Shape := ⟨4, ![10, 21, 4, 1024]⟩
abbrev S1x512 : Shape := ⟨2, ![1, 512]⟩
abbrev S1x1 : Shape := ⟨2, ![1, 1]⟩
abbrev S256x128 : Shape := ⟨2, ![256, 128]⟩
abbrev S21x256 : Shape := ⟨2, ![21, 256]⟩
abbrev S21x256x1 : Shape := ⟨3, ![21, 256, 1]⟩
abbrev S256x1024 : Shape := ⟨2, ![256, 1024]⟩
abbrev S256x1152 : Shape := ⟨2, ![256, 1152]⟩
abbrev S1x1x4x1024 : Shape := ⟨4, ![1, 1, 4, 1024]⟩
abbrev S4x1024 : Shape := ⟨2, ![4, 1024]⟩
abbrev S1x256x4 : Shape := ⟨3, ![1, 256, 4]⟩
abbrev S256x4 : Shape := ⟨2, ![256, 4]⟩
abbrev S256x1 : Shape := ⟨2, ![256, 1]⟩
abbrev S1x1024 : Shape := ⟨2, ![1, 1024]⟩
abbrev S256 : Shape := ⟨1, ![256]⟩
abbrev S256x512 : Shape := ⟨2, ![256, 512]⟩

abbrev nBuf : Space → Nat
  | .hbm => 25
  | .vmem => 15
  | .smem => 0
  | _ => 0

abbrev bufTy : (tb : Table) → Fin (tcTables nBuf tb) → BufTy
  | .hbm, ⟨0, _⟩ => ⟨S256x21x4, .f32⟩
  | .hbm, ⟨1, _⟩ => ⟨S10000x21x4, .f32⟩
  | .hbm, ⟨2, _⟩ => ⟨S84x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S84x84, .f32⟩
  | .hbm, ⟨11, _⟩ => ⟨S21x256x4, .f32⟩
  | .hbm, ⟨12, _⟩ => ⟨S256x84, .f32⟩
  | .hbm, ⟨13, _⟩ => ⟨S21x4x10000, .f32⟩
  | .hbm, ⟨14, _⟩ => ⟨S_, .i32⟩
  | .hbm, ⟨15, _⟩ => ⟨S_, .f32⟩
  | .hbm, ⟨16, _⟩ => ⟨S21x4x10240, .f32⟩
  | .hbm, ⟨17, _⟩ => ⟨S21x4x10x1024, .f32⟩
  | .hbm, ⟨18, _⟩ => ⟨S10x21x4x1024, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x1, .f32⟩
  | .hbm, ⟨23, _⟩ => ⟨S1x1, .f32⟩
  | .hbm, ⟨24, _⟩ => ⟨S_, .f32⟩
  | .local _ .vmem, ⟨0, _⟩ => ⟨S21x256x4, .f32⟩
  | .local _ .vmem, ⟨1, _⟩ => ⟨S256x84, .f32⟩
  | .local _ .vmem, ⟨2, _⟩ => ⟨S10x21x4x1024, .f32⟩
  | .local _ .vmem, ⟨3, _⟩ => ⟨S84x512, .f32⟩
  | .local _ .vmem, ⟨4, _⟩ => ⟨S1x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S512x1, .f32⟩
  | .local _ .vmem, ⟨10, _⟩ => ⟨S1x1, .f32⟩
  | .local _ .vmem, ⟨11, _⟩ => ⟨S84x84, .f32⟩
  | .local _ .vmem, ⟨12, _⟩ => ⟨S1x1, .f32⟩
  | .local _ .vmem, ⟨13, _⟩ => ⟨S21x256x4, .f32⟩
  | .local _ .vmem, ⟨14, _⟩ => ⟨S256x128, .f32⟩
  | _, _ => ⟨S256x21x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_c : Ref sig .tc := ⟨.hbm, 14, rfl⟩
abbrev main_call0_call0_v0 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v0 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v19 : BitVec 32 := Scalar.addi c0_i32 c10_i32
  let c1_i32 : BitVec 32 := 1#32
  ⟨c0_i32, v19, c1_i32⟩
@[reducible] def k0_t2_loop : Scf.Loop 32 :=
  let c0_i32_49 : BitVec 32 := 0#32
  let c21_i32 : BitVec 32 := 21#32
  let v77 : BitVec 32 := Scalar.addi c0_i32_49 c21_i32
  let c1_i32_50 : BitVec 32 := 1#32
  ⟨c0_i32_49, v77, c1_i32_50⟩
def k0_off1 (k0_t1 : Fin k0_t1_loop.trips) (k0_t2 : Fin k0_t2_loop.trips) : Fin 4 → Nat :=
  let c0_i32 : BitVec 32 := 0#32
  let c1_i32 : BitVec 32 := 1#32
  let arg15 : BitVec 32 := Scf.iv c0_i32 c1_i32 k0_t1
  let v155 : Index := Scalar.indexCast arg15
  let c0_i32_49 : BitVec 32 := 0#32
  let c1_i32_50 : BitVec 32 := 1#32
  let arg16 : BitVec 32 := Scf.iv c0_i32_49 c1_i32_50 k0_t2
  let v156 : Index := Scalar.indexCast arg16
  let c0_78 : Index := 0#32
  let c0_79 : Index := 0#32
  ![v155.toNat, v156.toNat, 0, 0]
def k0_off2 (k0_t2 : Fin k0_t2_loop.trips) : Fin 3 → Nat :=
  let c0_i32_49 : BitVec 32 := 0#32
  let c1_i32_50 : BitVec 32 := 1#32
  let arg16 : BitVec 32 := Scf.iv c0_i32_49 c1_i32_50 k0_t2
  let v159 : Index := Scalar.indexCast arg16
  let c0_80 : Index := 0#32
  let c0_81 : Index := 0#32
  ![v159.toNat, 0, 0]
abbrev stage0_0 : Fin 1 → Memref sig .tc .vmem S21x256x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10x21x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S84x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S84x84 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelIdeal.lean ====
variable {F : FTy → Type} [FloatOps F] [Named F]
def κ : String → Option EReal := fun
  | "eps_sq" => some ((5316911940649 / 5316911983139663491615228241121378304 : ℝ) : EReal)
  | "fifth" => some ((1 / 5 : ℝ) : EReal)
  | _ => none
-- ==== ReferenceIdeal.lean ====
abbrev S256x21x4 : Shape := ⟨3, ![256, 21, 4]⟩
abbrev S10000x21x4 : Shape := ⟨3, ![10000, 21, 4]⟩
abbrev S84x512 : Shape := ⟨2, ![84, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩
abbrev S256x21 : Shape := ⟨2, ![256, 21]⟩
abbrev S256x21x1 : Shape := ⟨3, ![256, 21, 1]⟩
abbrev S21x10000x256 : Shape := ⟨3, ![21, 10000, 256]⟩
abbrev S256x10000x21 : Shape := ⟨3, ![256, 10000, 21]⟩
abbrev S256x10000 : Shape := ⟨2, ![256, 10000]⟩
abbrev S256x5 : Shape := ⟨2, ![256, 5]⟩
abbrev S256 : Shape := ⟨1, ![256]⟩
abbrev S256x84 : Shape := ⟨2, ![256, 84]⟩
abbrev S256x512 : Shape := ⟨2, ![256, 512]⟩
abbrev S1x512 : Shape := ⟨2, ![1, 512]⟩
abbrev S256x1 : Shape := ⟨2, ![256, 1]⟩
abbrev S1x1 : Shape := ⟨2, ![1, 1]⟩

abbrev nBuf : Space → Nat
  | .hbm => 141
  | .vmem => 0
  | .smem => 0
  | _ => 0

abbrev hbmTy0_0 (i : Nat) : BufTy := match i % 128 with
  | 0 => ⟨S256x21x4, .f32⟩
  | 1 => ⟨S10000x21x4, .f32⟩
  | 2 => ⟨S84x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x1, .f32⟩
  | 9 => ⟨S1, .f32⟩
  | 10 => ⟨S256x21x4, .f32⟩
  | 11 => ⟨S_, .f32⟩
  | 12 => ⟨S256x21, .f32⟩
  | 13 => ⟨S256x21x1, .f32⟩
  | 14 => ⟨S256x21x1, .f32⟩
  | 15 => ⟨S_, .f32⟩
  | 16 => ⟨S256x21x1, .f32⟩
  | 17 => ⟨S256x21x1, .f32⟩
  | 18 => ⟨S256x21x4, .f32⟩
  | 19 => ⟨S256x21x4, .f32⟩
  | 20 => ⟨S21x10000x256, .f32⟩
  | 21 => ⟨S256x10000x21, .f32⟩
  | 22 => ⟨S_, .f32⟩
  | 23 => ⟨S_, .f32⟩
  | 24 => ⟨S_, .f32⟩
  | 25 => ⟨S256x10000x21, .f32⟩
  | 26 => ⟨S256x10000x21, .f32⟩
  | 27 => ⟨S_, .f32⟩
  | 28 => ⟨S256x10000x21, .f32⟩
  | 29 => ⟨S256x10000x21, .f32⟩
  | 30 => ⟨S256x10000x21, .f32⟩
  | 31 => ⟨S_, .f32⟩
  | 32 => ⟨S256x10000x21, .f32⟩
  | 33 => ⟨S_, .f32⟩
  | 34 => ⟨S256x10000x21, .f32⟩
  | 35 => ⟨S256x10000x21, .f32⟩
  | 36 => ⟨S_, .f32⟩
  | 37 => ⟨S256x10000x21, .f32⟩
  | 38 => ⟨S256x10000x21, .f32⟩
  | 39 => ⟨S_, .f32⟩
  | 40 => ⟨S256x10000x21, .f32⟩
  | 41 => ⟨S256x10000x21, .f32⟩
  | 42 => ⟨S256x10000x21, .f32⟩
  | 43 => ⟨S256x10000x21, .f32⟩
  | 44 => ⟨S_, .f32⟩
  | 45 => ⟨S256x10000x21, .f32⟩
  | 46 => ⟨S256x10000x21, .f32⟩
  | 47 => ⟨S256x10000x21, .f32⟩
  | 48 => ⟨S256x10000x21, .f32⟩
  | 49 => ⟨S256x10000x21, .f32⟩
  | 50 => ⟨S_, .f32⟩
  | 51 => ⟨S256x10000x21, .f32⟩
  | 52 => ⟨S256x10000x21, .f32⟩
  | 53 => ⟨S256x10000x21, .f32⟩
  | 54 => ⟨S256x10000x21, .f32⟩
  | 55 => ⟨S256x10000x21, .f32⟩
  | 56 => ⟨S_, .f32⟩
  | 57 => ⟨S256x10000x21, .f32⟩
  | 58 => ⟨S256x10000x21, .f32⟩
  | 59 => ⟨S256x10000x21, .f32⟩
  | 60 => ⟨S256x10000x21, .f32⟩
  | 61 => ⟨S256x10000x21, .f32⟩
  | 62 => ⟨S256x10000x21, .f32⟩
  | 63 => ⟨S_, .f32⟩
  | 64 => ⟨S256x10000x21, .f32⟩
  | 65 => ⟨S256x10000x21, .f32⟩
  | 66 => ⟨S256x10000x21, .f32⟩
  | 67 => ⟨S256x10000x21, .f32⟩
  | 68 => ⟨S256x10000x21, .f32⟩
  | 69 => ⟨S256x10000x21, .f32⟩
  | 70 => ⟨S_, .f32⟩
  | 71 => ⟨S256x10000x21, .f32⟩
  | 72 => ⟨S256x10000x21, .f32⟩
  | 73 => ⟨S256x10000x21, .f32⟩
  | 74 => ⟨S256x10000x21, .f32⟩
  | 75 => ⟨S256x10000x21, .f32⟩
  | 76 => ⟨S256x10000x21, .f32⟩
  | 77 => ⟨S256x10000x21, .f32⟩
  | 78 => ⟨S_, .f32⟩
  | 79 => ⟨S256x10000x21, .f32⟩
  | 80 => ⟨S256x10000x21, .f32⟩
  | 81 => ⟨S256x10000x21, .f32⟩
  | 82 => ⟨S_, .f32⟩
  | 83 => ⟨S256x10000x21, .f32⟩
  | 84 => ⟨S256x10000x21, .f32⟩
  | 85 => ⟨S256x10000x21, .f32⟩
  | 86 => ⟨S256x10000x21, .f32⟩
  | 87 => ⟨S_, .f32⟩
  | 88 => ⟨S256x10000x21, .f32⟩
  | 89 => ⟨S256x10000x21, .i1⟩
  | 90 => ⟨S_, .f32⟩
  | 91 => ⟨S256x10000x21, .f32⟩
  | 92 => ⟨S256x10000x21, .f32⟩
  | 93 => ⟨S256x10000x21, .f32⟩
  | 94 => ⟨S_, .f32⟩
  | 95 => ⟨S256x10000, .f32⟩
  | 96 => ⟨S_, .f32⟩
  | 97 => ⟨S256x10000, .f32⟩
  | 98 => ⟨S256x10000, .f32⟩
  | 99 => ⟨S256x10000, .f32⟩
  | 100 => ⟨S256x5, .f32⟩
  | 101 => ⟨S256x5, .i32⟩
  | 102 => ⟨S256x5, .f32⟩
  | 103 => ⟨S_, .f32⟩
  | 104 => ⟨S256, .f32⟩
  | 105 => ⟨S_, .f32⟩
  | 106 => ⟨S256, .f32⟩
  | 107 => ⟨S256, .f32⟩
  | 108 => ⟨S256x84, .f32⟩
  | 109 => ⟨S256x512, .f32⟩
  | 110 => ⟨S1x512, .f32⟩
  | 111 => ⟨S256x512, .f32⟩
  | 112 => ⟨S256x512, .f32⟩
  | 113 => ⟨S_, .f32⟩
  | 114 => ⟨S256x512, .f32⟩
  | 115 => ⟨S256x512, .f32⟩
  | 116 => ⟨S256x512, .f32⟩
  | 117 => ⟨S1x512, .f32⟩
  | 118 => ⟨S256x512, .f32⟩
  | 119 => ⟨S256x512, .f32⟩
  | 120 => ⟨S_, .f32⟩
  | 121 => ⟨S256x512, .f32⟩
  | 122 => ⟨S256x512, .f32⟩
  | 123 => ⟨S256x512, .f32⟩
  | 124 => ⟨S1x512, .f32⟩
  | 125 => ⟨S256x512, .f32⟩
  | 126 => ⟨S256x512, .f32⟩
  | 127 => ⟨S_, .f32⟩
  | _ => ⟨S256x21x4, .f32⟩

abbrev hbmTy0_1 (i : Nat) : BufTy := match i % 128 with
  | 0 => ⟨S256x512, .f32⟩
  | 1 => ⟨S256x512, .f32⟩
  | 2 => ⟨S256x1, .f32⟩
  | 3 => ⟨S1x1, .f32⟩
  | 4 => ⟨S256x1, .f32⟩
  | 5 => ⟨S256x1, .f32⟩
  | 6 => ⟨S256, .f32⟩
  | 7 => ⟨S256, .f32⟩
  | 8 => ⟨S256, .f32⟩
  | 9 => ⟨S_, .f32⟩
  | 10 => ⟨S_, .f32⟩
  | 11 => ⟨S_, .f32⟩
  | 12 => ⟨S_, .f32⟩
  | _ => ⟨S256x21x4, .f32⟩

abbrev hbmTy (i : Nat) : BufTy := match i / 128 with
  | 0 => hbmTy0_0 i
  | 1 => hbmTy0_1 i
  | _ => ⟨S256x21x4, .f32⟩

abbrev bufTy : (tb : Table) → Fin (tcTables nBuf tb) → BufTy
  | .hbm, ⟨i, _⟩ => hbmTy i
  | _, _ => ⟨S256x21x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_cst_4 : Ref sig .tc := ⟨.hbm, 33, rfl⟩
abbrev main_v13 : Ref sig .tc := ⟨.hbm, 34, rfl⟩
abbrev main_v14 : Ref sig .tc := ⟨.hbm, 35, rfl⟩
abbrev main_cst_5 : Ref sig .tc := ⟨.hbm, 36, rfl⟩
abbrev main_v15 : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_8 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_16 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_values : Ref sig .tc := ⟨.hbm, 100, rfl⟩
abbrev main_indices : Ref sig .tc := ⟨.hbm, 101, rfl⟩
abbrev main_v66 : Ref sig .tc := ⟨.hbm, 102, rfl⟩
abbrev main_cst_18 : Ref sig .tc := ⟨.hbm, 103, rfl⟩
abbrev main_v67 : Ref sig .tc := ⟨.hbm, 104, rfl⟩
abbrev main_cst_19 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call3_cst : Ref sig .tc := ⟨.hbm, 120, rfl⟩
abbrev main_call3_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call4_cst : Ref sig .tc := ⟨.hbm, 127, rfl⟩
abbrev main_call4_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_20 : Ref sig .tc := ⟨.hbm, 137, rfl⟩
abbrev main_v93 : Ref sig .tc := ⟨.hbm, 138, rfl⟩
abbrev main_cst_21 : Ref sig .tc := ⟨.hbm, 139, rfl⟩
abbrev main_v94 : Ref sig .tc := ⟨.hbm, 140, rfl⟩

abbrev nD : Nat := 1
abbrev τ : Topo := Topo.v7x

variable {F : FTy → Type} [FloatOps F]
-- ==== Proof.KernelIdeal.Body.lean ====
/-
  The kernel's body, run once at symbolic operands: what each of its two nested loops leaves after a trip, the
  invariant of the outer loop, and the triple of the whole body with the value it stores into its result.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The kernel runs no loop that needs a variant. -/
abbrev 𝒱₀ : Variants := Variants.none

/-! ## What the loops compute, as functions of the buffers' contents -/

/-- The 4 × 1024 block of training poses that trip `j` of the inner loop reads in trip `k` of the outer one. -/
def trainBlk (arg2 : Memref sig .tc .vmem S10x21x4x1024 .f32) (X2 : BufTy.Contents (Elt F) arg2.view.ty) (k : Fin k0_t1_loop.trips) (j : Fin k0_t2_loop.trips) : Vec F S1x1x4x1024 .f32 :=
  View.readAt (Elt F) arg2.view (Rect.unit (s := S10x21x4x1024) (k0_off1 k j) S1x1x4x1024.size (k0_off1_inb k j)).toLoadRect X2

/-- The 256 × 4 slab of normalised poses, of joint `j`, that trip `j` of the inner loop reads. -/
def poseBlk (arg13 : Memref sig .tc .vmem S21x256x4 .f32) (X13 : BufTy.Contents (Elt F) arg13.view.ty) (j : Fin k0_t2_loop.trips) : Vec F S1x256x4 .f32 :=
  View.readAt (Elt F) arg13.view (Rect.unit (s := S21x256x4) (k0_off2 j) S1x256x4.size (k0_off2_inb j)).toLoadRect X13

/-- One trip of the inner loop: joint `j`'s angle added to the accumulator. -/
def accStep (arg2 : Memref sig .tc .vmem S10x21x4x1024 .f32) (arg13 : Memref sig .tc .vmem S21x256x4 .f32) (X2 : BufTy.Contents (Elt F) arg2.view.ty) (X13 : BufTy.Contents (Elt F) arg13.view.ty) (k : Fin k0_t1_loop.trips) (j : Fin k0_t2_loop.trips) (acc : FVec F S256x1024 .f32) : FVec F S256x1024 .f32 :=
  k0_pay7 acc (k0_pay2 (trainBlk arg2 X2 k j) (poseBlk arg13 X13 j)) (k0_pay3 (trainBlk arg2 X2 k j) (poseBlk arg13 X13 j))
    (k0_pay4 (trainBlk arg2 X2 k j) (poseBlk arg13 X13 j)) (k0_pay5 (trainBlk arg2 X2 k j) (poseBlk arg13 X13 j))

/-- The inner loop's accumulator before trip `n`. -/
def acc (arg2 : Memref sig .tc .vmem S10x21x4x1024 .f32) (arg13 : Memref sig .tc .vmem S21x256x4 .f32) (X2 : BufTy.Contents (Elt F) arg2.view.ty) (X13 : BufTy.Contents (Elt F) arg13.view.ty) (k : Fin k0_t1_loop.trips) : ℕ → FVec F S256x1024 .f32
  | 0 => k0_pay6 (F := F)
  | n + 1 => if h : n < k0_t2_loop.trips then accStep arg2 arg13 X2 X13 k ⟨n, h⟩ (acc arg2 arg13 X2 X13 k n) else acc arg2 arg13 X2 X13 k n

/-- The lane numbers of the 1024 new candidates. -/
abbrev lanes1024 : IVec S256x1024 32 := iota .tc S256x1024 32 [1] iota_S256x1024_d1_w32
/-- The lane numbers of all 1152 candidates. -/
abbrev lanes1152 : IVec S256x1152 32 := iota .tc S256x1152 32 [1] iota_S256x1152_d1_w32

/-- What the kept rows hold after trip `k` of the outer loop, from `X14` before it and the trip's distances `d`: the
    five rounds' minima stored into columns 0 … 4. -/
def kept (arg14 : Memref sig .tc .vmem S256x128 .f32) (X14 : BufTy.Contents (Elt F) arg14.view.ty) (k : Fin k0_t1_loop.trips) (d : FVec F S256x1024 .f32) : BufTy.Contents (Elt F) arg14.view.ty :=
  let v88 := (View.readAt (Elt F) arg14.view (Rect.unit (s := S256x128) ![0, 0] S256x128.size inb_S256x128_S256x128_0_0).toLoadRect X14)
  let v101 := k0_pay10 lanes1024 lanes1152 0#32 1#32 k d v88
  let v106 := k0_pay12 lanes1024 lanes1152 0#32 1#32 k d v88
  let v113 := k0_pay13 lanes1024 lanes1152 0#32 1#32 k d v88
  arg14.view.writes (Elt F) X14
    [⟨Rect.unit ![0, 4] S256x1.size inb_S256x128_S256x1_0_4, k0_pay24 (k0_pay21 lanes1152 v101 v113)⟩,
     ⟨Rect.unit ![0, 3] S256x1.size inb_S256x128_S256x1_0_3, k0_pay20 lanes1152 v101 v113⟩,
     ⟨Rect.unit ![0, 2] S256x1.size inb_S256x128_S256x1_0_2, k0_pay18 lanes1152 v101 v113⟩,
     ⟨Rect.unit ![0, 1] S256x1.size inb_S256x128_S256x1_0_1, k0_pay15 v106⟩,
     ⟨Rect.unit ![0, 0] S256x1.size inb_S256x128_S256x1_0_0, k0_pay11 lanes1024 0#32 1#32 k d v88⟩]

/-- What the kept rows hold before trip `n` of the outer loop. -/
def keptAt (arg2 : Memref sig .tc .vmem S10x21x4x1024 .f32) (arg13 : Memref sig .tc .vmem S21x256x4 .f32) (arg14 : Memref sig .tc .vmem S256x128 .f32) (X2 : BufTy.Contents (Elt F) arg2.view.ty) (X13 : BufTy.Contents (Elt F) arg13.view.ty) (X14 : BufTy.Contents (Elt F) arg14.view.ty) : ℕ → BufTy.Contents (Elt F) arg14.view.ty
  | 0 => X14
  | n + 1 => if h : n < k0_t1_loop.trips then kept arg14 (keptAt arg2 arg13 arg14 X2 X13 X14 n) ⟨n, h⟩ (acc arg2 arg13 X2 X13 ⟨n, h⟩ k0_t2_loop.trips)
      else keptAt arg2 arg13 arg14 X2 X13 X14 n

/-- One training block later, the kept distances are those of that block's step. -/
theorem keptAt_succ (arg2 : Memref sig .tc .vmem S10x21x4x1024 .f32) (arg13 : Memref sig .tc .vmem S21x256x4 .f32) (arg14 : Memref sig .tc .vmem S256x128 .f32) (X2 : BufTy.Contents (Elt F) arg2.view.ty) (X13 : BufTy.Contents (Elt F) arg13.view.ty) (X14 : BufTy.Contents (Elt F) arg14.view.ty) (k : Fin k0_t1_loop.trips) :
    keptAt arg2 arg13 arg14 X2 X13 X14 (k.val + 1) = kept arg14 (keptAt arg2 arg13 arg14 X2 X13 X14 k.val) k (acc arg2 arg13 X2 X13 k k0_t2_loop.trips) := by
  rw [keptAt]; exact dif_pos k.isLt

/-- The generated recursion on the inner loop's carried value is `acc`. -/
theorem st_eq_acc (c : Dev nD) (arg0 : Memref sig .tc .vmem S21x256x4 .f32) (harg0 : arg0.IsWhole) (arg1 : Memref sig .tc .vmem S256x84 .f32) (harg1 : arg1.IsWhole) (arg2 : Memref sig .tc .vmem S10x21x4x1024 .f32) (harg2 : arg2.IsWhole) (arg3 : Memref sig .tc .vmem S84x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S84x84 .f32) (harg11 : arg11.IsWhole) (arg12 : Memref sig .tc .vmem S1x1 .f32) (harg12 : arg12.IsWhole) (arg13 : Memref sig .tc .vmem S21x256x4 .f32) (harg13 : arg13.IsWhole) (arg14 : Memref sig .tc .vmem S256x128 .f32) (harg14 : arg14.IsWhole) (v17 : IVec S256x1024 32) (v18 : IVec S256x1152 32) (c0 c1 a15 : BitVec 32) (k : Fin k0_t1_loop.trips)
    (X2 : BufTy.Contents (Elt F) arg2.view.ty) (X13 : BufTy.Contents (Elt F) arg13.view.ty) : ∀ n : ℕ,
    st_k0_t2 (F := F) 𝒱₀ c none arg0 harg0 arg1 harg1 arg2 harg2 arg3 harg3 arg4 harg4 arg5 harg5 arg6 harg6 arg7 harg7 arg8 harg8 arg9 harg9 arg10 harg10 arg11 harg11 arg12 harg12 arg13 harg13 arg14 harg14 v17 v18 c0 c1 k a15 X2 X13 (k0_pay6 (F := F)) n = acc arg2 arg13 X2 X13 k n
  | 0 => rfl
  | n + 1 => by
    rw [st_k0_t2.eq_2, st_eq_acc c arg0 harg0 arg1 harg1 arg2 harg2 arg3 harg3 arg4 harg4 arg5 harg5 arg6 harg6 arg7 harg7 arg8 harg8 arg9 harg9 arg10 harg10 arg11 harg11 arg12 harg12 arg13 harg13 arg14 harg14 v17 v18 c0 c1 a15 k X2 X13 n, acc]
    unfold st_k0_t2Step
    split
    · unfold tripR_k0_t2 trip_k0_t2 accStep trainBlk poseBlk
      rfl
    · rfl

/-- What one trip of the outer loop touches: the staged training poses and the normalised poses, read, and the kept rows. -/
abbrev Trip1 (c : Dev nD) (arg2 : Memref sig .tc .vmem S10x21x4x1024 .f32) (arg13 : Memref sig .tc .vmem S21x256x4 .f32) (arg14 : Memref sig .tc .vmem S256x128 .f32) (X2 : BufTy.Contents (Elt F) arg2.view.ty) (X13 : BufTy.Contents (Elt F) arg13.view.ty) (X14 : BufTy.Contents (Elt F) arg14.view.ty) : sProp 𝕄 :=
  iprop((arg2.view.loc (c : Thread nD τ) ↦[arg2.view.set]{fullShare} X2) ∗ (arg13.view.loc (c : Thread nD τ) ↦[arg13.view.set]{fullShare} X13) ∗ (arg14.view.loc (c : Thread nD τ) ↦[arg14.view.set]{fullShare} X14))

/-- One trip of the outer loop at a symbolic trip `k`: the kept rows go from `X14` to `kept … X14 k …`. -/
theorem trip1 (c : Dev nD) (arg0 : Memref sig .tc .vmem S21x256x4 .f32) (harg0 : arg0.IsWhole) (arg1 : Memref sig .tc .vmem S256x84 .f32) (harg1 : arg1.IsWhole) (arg2 : Memref sig .tc .vmem S10x21x4x1024 .f32) (harg2 : arg2.IsWhole) (arg3 : Memref sig .tc .vmem S84x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S84x84 .f32) (harg11 : arg11.IsWhole) (arg12 : Memref sig .tc .vmem S1x1 .f32) (harg12 : arg12.IsWhole) (arg13 : Memref sig .tc .vmem S21x256x4 .f32) (harg13 : arg13.IsWhole) (arg14 : Memref sig .tc .vmem S256x128 .f32) (harg14 : arg14.IsWhole)
    (X2 : BufTy.Contents (Elt F) arg2.view.ty) (X13 : BufTy.Contents (Elt F) arg13.view.ty) (X14 : BufTy.Contents (Elt F) arg14.view.ty) (k : Fin k0_t1_loop.trips) :
    Trip1 c arg2 arg13 arg14 X2 X13 X14 ⊢ wp frame (wpE (defs₀ (F := F)) 𝒱₀ (c : Thread nD τ) none) Set.univ
        (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 lanes1024 lanes1152 k ())
        (fun _ => Trip1 c arg2 arg13 arg14 X2 X13 (kept arg14 X14 k (acc arg2 arg13 X2 X13 k k0_t2_loop.trips))) := by
  have hk : k.val < 10 := Nat.lt_of_lt_of_le k.isLt (by decide)
  unfold k0_t1_body
  let L := loopInv_k0_t2 (F := F) 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 lanes1024 lanes1152 0#32 1#32 k (Scf.iv 0#32 1#32 k) X2 X13 (k0_pay6 (F := F))
  iintro ⟨H2, H13, H14⟩
  sl_exec
  sl_step
  isplitl [H2]; · iexact H2
  isplitl [H13]; · iexact H13
  rw [← st_eq_acc c arg0 harg0 arg1 harg1 arg2 harg2 arg3 harg3 arg4 harg4 arg5 harg5 arg6 harg6 arg7 harg7 arg8 harg8 arg9 harg9 arg10 harg10 arg11 harg11 arg12 harg12 arg13 harg13 arg14 harg14 lanes1024 lanes1152 0#32 1#32 (Scf.iv 0#32 1#32 k) k X2 X13 k0_t2_loop.trips]
  iexact H14

set_option warn.classDefReducibility false in
/-- The outer loop by its invariant: before trip `n` the kept rows hold `keptAt … n`, the two buffers it reads unchanged. -/
@[sl_loop] def loopInv_k0_t1 (c : Dev nD) (arg0 : Memref sig .tc .vmem S21x256x4 .f32) (harg0 : arg0.IsWhole) (arg1 : Memref sig .tc .vmem S256x84 .f32) (harg1 : arg1.IsWhole) (arg2 : Memref sig .tc .vmem S10x21x4x1024 .f32) (harg2 : arg2.IsWhole) (arg3 : Memref sig .tc .vmem S84x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S84x84 .f32) (harg11 : arg11.IsWhole) (arg12 : Memref sig .tc .vmem S1x1 .f32) (harg12 : arg12.IsWhole) (arg13 : Memref sig .tc .vmem S21x256x4 .f32) (harg13 : arg13.IsWhole) (arg14 : Memref sig .tc .vmem S256x128 .f32) (harg14 : arg14.IsWhole)
    (X2 : BufTy.Contents (Elt F) arg2.view.ty) (X13 : BufTy.Contents (Elt F) arg13.view.ty) (X14 : BufTy.Contents (Elt F) arg14.view.ty) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 lanes1024 lanes1152 where
  inv n _ := iprop((arg2.view.loc (c : Thread nD τ) ↦[arg2.view.set]{fullShare} X2) ∗ (arg13.view.loc (c : Thread nD τ) ↦[arg13.view.set]{fullShare} X13) ∗ ∃ f, (arg14.view.loc (c : Thread nD τ) ↦[arg14.view.set]{fullShare} f) ∗ ⌜f = keptAt arg2 arg13 arg14 X2 X13 X14 n⌝)
  step k _ := by
    iintro ⟨H2, H13, %f, H14, %hf⟩
    subst hf
    iapply (wp_wand_r Idealize.ShloMosaic.frame (wpE (defs₀ (F := F)) 𝒱₀ (c : Thread nD τ) none) Set.univ)
    isplitl [H2 H13 H14]
    · iapply (trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 X2 X13 (keptAt arg2 arg13 arg14 X2 X13 X14 k.val) k)
      isplitl [H2]; · iexact H2
      isplitl [H13]; · iexact H13
      iexact H14
    · iintro %_ ⟨H2, H13, H14⟩
      isplitl [H2]; · iexact H2
      isplitl [H13]; · iexact H13
      iexists _
      isplitl [H14]; · iexact H14
      ipureintro
      rw [keptAt_succ]

/-- The normalised poses the body stores, from the contents of its first operand. -/
def posesOf (arg0 : Memref sig .tc .vmem S21x256x4 .f32) (arg13 : Memref sig .tc .vmem S21x256x4 .f32) (X0 : BufTy.Contents (Elt F) arg0.view.ty) : BufTy.Contents (Elt F) arg13.view.ty :=
  arg13.view.writes (Elt F) arg13.view.junk [⟨Rect.unit ![0, 0, 0] S21x256x4.size inb_S21x256x4_S21x256x4_0_0_0, k0_pay22 (View.readAt (Elt F) arg0.view (Rect.unit (s := S21x256x4) ![0, 0, 0] S21x256x4.size inb_S21x256x4_S21x256x4_0_0_0).toLoadRect X0)⟩]

/-- The kept rows the body starts from: the large stand-in everywhere. -/
def keptInit (arg14 : Memref sig .tc .vmem S256x128 .f32) : BufTy.Contents (Elt F) arg14.view.ty :=
  arg14.view.writes (Elt F) arg14.view.junk [⟨Rect.unit ![0, 0] S256x128.size inb_S256x128_S256x128_0_0, k0_pay23 (F := F)⟩]

/-- The kept rows after all the trips of the outer loop. -/
def keptEnd (arg0 : Memref sig .tc .vmem S21x256x4 .f32) (arg2 : Memref sig .tc .vmem S10x21x4x1024 .f32) (arg13 : Memref sig .tc .vmem S21x256x4 .f32) (arg14 : Memref sig .tc .vmem S256x128 .f32) (X0 : BufTy.Contents (Elt F) arg0.view.ty) (X2 : BufTy.Contents (Elt F) arg2.view.ty) : BufTy.Contents (Elt F) arg14.view.ty :=
  keptAt arg2 arg13 arg14 X2 (posesOf arg0 arg13 X0) (keptInit arg14) k0_t1_loop.trips

/-- The prediction of the four layers, from the contents of the operands they read. -/
def predOf (arg1 : Memref sig .tc .vmem S256x84 .f32) (arg3 : Memref sig .tc .vmem S84x512 .f32) (arg4 : Memref sig .tc .vmem S1x512 .f32) (arg5 : Memref sig .tc .vmem S512x512 .f32) (arg6 : Memref sig .tc .vmem S1x512 .f32) (arg7 : Memref sig .tc .vmem S512x512 .f32) (arg8 : Memref sig .tc .vmem S1x512 .f32) (arg9 : Memref sig .tc .vmem S512x1 .f32) (arg10 : Memref sig .tc .vmem S1x1 .f32) (arg11 : Memref sig .tc .vmem S84x84 .f32) (X1 : BufTy.Contents (Elt F) arg1.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) : FVec F S256x1 .f32 :=
  k0_pay26 (k0_pay25 (View.readAt (Elt F) arg1.view (Rect.unit (s := S256x84) ![0, 0] S256x84.size inb_S256x84_S256x84_0_0).toLoadRect X1) (View.readAt (Elt F) arg11.view (Rect.unit (s := S84x84) ![0, 0] S84x84.size inb_S84x84_S84x84_0_0).toLoadRect X11) (View.readAt (Elt F) arg3.view (Rect.unit (s := S84x512) ![0, 0] S84x512.size inb_S84x512_S84x512_0_0).toLoadRect X3))
    (View.readAt (Elt F) arg4.view (Rect.unit (s := S1x512) ![0, 0] S1x512.size inb_S1x512_S1x512_0_0).toLoadRect X4) (View.readAt (Elt F) arg5.view (Rect.unit (s := S512x512) ![0, 0] S512x512.size inb_S512x512_S512x512_0_0).toLoadRect X5) (View.readAt (Elt F) arg6.view (Rect.unit (s := S1x512) ![0, 0] S1x512.size inb_S1x512_S1x512_0_0).toLoadRect X6)
    (View.readAt (Elt F) arg7.view (Rect.unit (s := S512x512) ![0, 0] S512x512.size inb_S512x512_S512x512_0_0).toLoadRect X7) (View.readAt (Elt F) arg8.view (Rect.unit (s := S1x512) ![0, 0] S1x512.size inb_S1x512_S1x512_0_0).toLoadRect X8) (View.readAt (Elt F) arg9.view (Rect.unit (s := S512x1) ![0, 0] S512x1.size inb_S512x1_S512x1_0_0).toLoadRect X9) (View.readAt (Elt F) arg10.view (Rect.unit (s := S1x1) ![0, 0] S1x1.size inb_S1x1_S1x1_0_0).toLoadRect X10)

/-- What the body stores into its result. -/
def outOf (arg0 : Memref sig .tc .vmem S21x256x4 .f32) (arg1 : Memref sig .tc .vmem S256x84 .f32) (arg2 : Memref sig .tc .vmem S10x21x4x1024 .f32) (arg3 : Memref sig .tc .vmem S84x512 .f32) (arg4 : Memref sig .tc .vmem S1x512 .f32) (arg5 : Memref sig .tc .vmem S512x512 .f32) (arg6 : Memref sig .tc .vmem S1x512 .f32) (arg7 : Memref sig .tc .vmem S512x512 .f32) (arg8 : Memref sig .tc .vmem S1x512 .f32) (arg9 : Memref sig .tc .vmem S512x1 .f32) (arg10 : Memref sig .tc .vmem S1x1 .f32) (arg11 : Memref sig .tc .vmem S84x84 .f32) (arg13 : Memref sig .tc .vmem S21x256x4 .f32) (arg14 : Memref sig .tc .vmem S256x128 .f32) (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) : FVec F S1x1 .f32 :=
  k0_pay1 (predOf arg1 arg3 arg4 arg5 arg6 arg7 arg8 arg9 arg10 arg11 X1 X3 X4 X5 X6 X7 X8 X9 X10 X11)
    (k0_pay27 (View.readAt (Elt F) arg14.view (Rect.unit (s := S256x128) ![0, 0] S256x128.size inb_S256x128_S256x128_0_0).toLoadRect (keptEnd arg0 arg2 arg13 arg14 X0 X2)))
    (Named.named κ "fifth" 0x3E4CCCCD#32)

/-- The body's triple: from the twelve operands at `X0` … `X11`, the result and the two scratch buffers at anything, the
    kernel runs to its return, the operands as they were and the result at `outOf`. -/
theorem kernelRun (c : Dev nD) (arg0 : Memref sig .tc .vmem S21x256x4 .f32) (harg0 : arg0.IsWhole) (arg1 : Memref sig .tc .vmem S256x84 .f32) (harg1 : arg1.IsWhole) (arg2 : Memref sig .tc .vmem S10x21x4x1024 .f32) (harg2 : arg2.IsWhole) (arg3 : Memref sig .tc .vmem S84x512 .f32) (harg3 : arg3.IsWhole) (arg4 : Memref sig .tc .vmem S1x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S1x512 .f32) (harg8 : arg8.IsWhole) (arg9 : Memref sig .tc .vmem S512x1 .f32) (harg9 : arg9.IsWhole) (arg10 : Memref sig .tc .vmem S1x1 .f32) (harg10 : arg10.IsWhole) (arg11 : Memref sig .tc .vmem S84x84 .f32) (harg11 : arg11.IsWhole) (arg12 : Memref sig .tc .vmem S1x1 .f32) (harg12 : arg12.IsWhole) (arg13 : Memref sig .tc .vmem S21x256x4 .f32) (harg13 : arg13.IsWhole) (arg14 : Memref sig .tc .vmem S256x128 .f32) (harg14 : arg14.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (K : PUnit → sProp 𝕄) :
    iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)
      ∗ (iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} (arg12.view.writes (Elt F) X12 [⟨Rect.unit ![0, 0] S1x1.size inb_S1x1_S1x1_0_0, outOf arg0 arg1 arg2 arg3 arg4 arg5 arg6 arg7 arg8 arg9 arg10 arg11 arg13 arg14 X0 X1 X2 X3 X4 X5 X6 X7 X8 X9 X10 X11⟩]))
          ∗ (∃ f, (arg13.view.loc (c : Thread nD τ) ↦[arg13.view.set]{fullShare} f)) ∗ (∃ f, (arg14.view.loc (c : Thread nD τ) ↦[arg14.view.set]{fullShare} f))) -∗ K ⟨⟩))
    ⊢ wp frame (wpE (defs₀ (F := F)) 𝒱₀ (c : Thread nD τ) none) Set.univ (cc0__kern (F := F) arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__kern_eq_skeleton]; unfold cc0__kern_skel
  iintro ⟨H0, H1, H2, H3, H4, H5, H6, H7, H8, H9, H10, H11, H12, H13, H14, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iexists _; iexact H14

end Cert.Proof.KernelIdeal

end
-- ==== Proof.KernelIdeal.Run.lean ====
/-
  The kernel's run: the pipeline's proof data (every operand staged whole, the result at what the body stores), the body
  obligation, and the launch with the host operations before and after the region.
-/
module

public import proofs.«01_k».proof.Proof.KernelIdeal.Body
public import proofs.«01_k».proof.Proof.Gen.KernelIdeal.Frame
public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Tactic
public import Idealize.ShloMosaic.Lib.VecWindow
public import Idealize.ShloMosaic.Lib.Claim
public import Idealize.ShloMosaic.Lib.Pipeline.FrameSuffix
public import Idealize.ShloMosaic.Lib.Pipeline.FrameBody

@[expose] public section

set_option maxRecDepth 8192
set_option maxHeartbeats 1000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The value the body stores into its result at core `c`: `outOf` at the staged blocks. -/
def outVal (c : Dev nD) (t : Fin cfg0.N) : FVec F S1x1 .f32 :=
  outOf (Memref.whole cc0_stg0_0) (Memref.whole cc0_stg1_0) (Memref.whole cc0_stg2_0) (Memref.whole cc0_stg3_0) (Memref.whole cc0_stg4_0) (Memref.whole cc0_stg5_0) (Memref.whole cc0_stg6_0) (Memref.whole cc0_stg7_0) (Memref.whole cc0_stg8_0) (Memref.whole cc0_stg9_0) (Memref.whole cc0_stg10_0) (Memref.whole cc0_stg11_0) (Memref.whole cc0_scratch0) (Memref.whole cc0_scratch1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The proof data on core `c`: each array as the region finds it; after the body every operand's staging buffer as
    fetched and the result's at `outVal`; the scratch buffers at anything between points; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outVal m c t
  Φ _ := Pipeline.ΦA spec0 c
  q _ := fullShare
  owed _ := 0

/-- A window's array as the launch finds it. -/
theorem A_eq (c : Dev nD) (w : Fin cfg0.W) : (dats m 0 c).A w = V m c (Pipeline.arrRef spec0 w) := by dsimp only [dats]

/-- Operand 0's staging buffer is unchanged by the body. -/
theorem after_0 (c : Dev nD) (t : Fin cfg0.N) : (dats m 0 c).after 0 t = iblk m c 0 t := by dsimp only [dats]
/-- Operand 1's staging buffer is unchanged by the body. -/
theorem after_1 (c : Dev nD) (t : Fin cfg0.N) : (dats m 0 c).after 1 t = iblk m c 1 t := by dsimp only [dats]
/-- Operand 2's staging buffer is unchanged by the body. -/
theorem after_2 (c : Dev nD) (t : Fin cfg0.N) : (dats m 0 c).after 2 t = iblk m c 2 t := by dsimp only [dats]
/-- Operand 3's staging buffer is unchanged by the body. -/
theorem after_3 (c : Dev nD) (t : Fin cfg0.N) : (dats m 0 c).after 3 t = iblk m c 3 t := by dsimp only [dats]
/-- Operand 4's staging buffer is unchanged by the body. -/
theorem after_4 (c : Dev nD) (t : Fin cfg0.N) : (dats m 0 c).after 4 t = iblk m c 4 t := by dsimp only [dats]
/-- Operand 5's staging buffer is unchanged by the body. -/
theorem after_5 (c : Dev nD) (t : Fin cfg0.N) : (dats m 0 c).after 5 t = iblk m c 5 t := by dsimp only [dats]
/-- Operand 6's staging buffer is unchanged by the body. -/
theorem after_6 (c : Dev nD) (t : Fin cfg0.N) : (dats m 0 c).after 6 t = iblk m c 6 t := by dsimp only [dats]
/-- Operand 7's staging buffer is unchanged by the body. -/
theorem after_7 (c : Dev nD) (t : Fin cfg0.N) : (dats m 0 c).after 7 t = iblk m c 7 t := by dsimp only [dats]
/-- Operand 8's staging buffer is unchanged by the body. -/
theorem after_8 (c : Dev nD) (t : Fin cfg0.N) : (dats m 0 c).after 8 t = iblk m c 8 t := by dsimp only [dats]
/-- Operand 9's staging buffer is unchanged by the body. -/
theorem after_9 (c : Dev nD) (t : Fin cfg0.N) : (dats m 0 c).after 9 t = iblk m c 9 t := by dsimp only [dats]
/-- Operand 10's staging buffer is unchanged by the body. -/
theorem after_10 (c : Dev nD) (t : Fin cfg0.N) : (dats m 0 c).after 10 t = iblk m c 10 t := by dsimp only [dats]
/-- Operand 11's staging buffer is unchanged by the body. -/
theorem after_11 (c : Dev nD) (t : Fin cfg0.N) : (dats m 0 c).after 11 t = iblk m c 11 t := by dsimp only [dats]
/-- The result's staging buffer after the body. -/
theorem after_12 (c : Dev nD) (t : Fin cfg0.N) : (dats m 0 c).after 12 t = outVal m c t := by dsimp only [dats]

/-- Operand 0's staging buffer holds its block when the body starts. -/
theorem before_0 (c : Dev nD) (t : Fin cfg0.N) (d) : (dats m 0 c).before 0 t d = iblk m c 0 t :=
  before0_0_of m (dats m 0 c) (A_eq m c 0) (after_0 m c) t d
/-- Operand 1's staging buffer holds its block when the body starts. -/
theorem before_1 (c : Dev nD) (t : Fin cfg0.N) (d) : (dats m 0 c).before 1 t d = iblk m c 1 t :=
  before0_1_of m (dats m 0 c) (A_eq m c 1) (after_1 m c) t d
/-- Operand 2's staging buffer holds its block when the body starts. -/
theorem before_2 (c : Dev nD) (t : Fin cfg0.N) (d) : (dats m 0 c).before 2 t d = iblk m c 2 t :=
  before0_2_of m (dats m 0 c) (A_eq m c 2) (after_2 m c) t d
/-- Operand 3's staging buffer holds its block when the body starts. -/
theorem before_3 (c : Dev nD) (t : Fin cfg0.N) (d) : (dats m 0 c).before 3 t d = iblk m c 3 t :=
  before0_3_of m (dats m 0 c) (A_eq m c 3) (after_3 m c) t d
/-- Operand 4's staging buffer holds its block when the body starts. -/
theorem before_4 (c : Dev nD) (t : Fin cfg0.N) (d) : (dats m 0 c).before 4 t d = iblk m c 4 t :=
  before0_4_of m (dats m 0 c) (A_eq m c 4) (after_4 m c) t d
/-- Operand 5's staging buffer holds its block when the body starts. -/
theorem before_5 (c : Dev nD) (t : Fin cfg0.N) (d) : (dats m 0 c).before 5 t d = iblk m c 5 t :=
  before0_5_of m (dats m 0 c) (A_eq m c 5) (after_5 m c) t d
/-- Operand 6's staging buffer holds its block when the body starts. -/
theorem before_6 (c : Dev nD) (t : Fin cfg0.N) (d) : (dats m 0 c).before 6 t d = iblk m c 6 t :=
  before0_6_of m (dats m 0 c) (A_eq m c 6) (after_6 m c) t d
/-- Operand 7's staging buffer holds its block when the body starts. -/
theorem before_7 (c : Dev nD) (t : Fin cfg0.N) (d) : (dats m 0 c).before 7 t d = iblk m c 7 t :=
  before0_7_of m (dats m 0 c) (A_eq m c 7) (after_7 m c) t d
/-- Operand 8's staging buffer holds its block when the body starts. -/
theorem before_8 (c : Dev nD) (t : Fin cfg0.N) (d) : (dats m 0 c).before 8 t d = iblk m c 8 t :=
  before0_8_of m (dats m 0 c) (A_eq m c 8) (after_8 m c) t d
/-- Operand 9's staging buffer holds its block when the body starts. -/
theorem before_9 (c : Dev nD) (t : Fin cfg0.N) (d) : (dats m 0 c).before 9 t d = iblk m c 9 t :=
  before0_9_of m (dats m 0 c) (A_eq m c 9) (after_9 m c) t d
/-- Operand 10's staging buffer holds its block when the body starts. -/
theorem before_10 (c : Dev nD) (t : Fin cfg0.N) (d) : (dats m 0 c).before 10 t d = iblk m c 10 t :=
  before0_10_of m (dats m 0 c) (A_eq m c 10) (after_10 m c) t d
/-- Operand 11's staging buffer holds its block when the body starts. -/
theorem before_11 (c : Dev nD) (t : Fin cfg0.N) (d) : (dats m 0 c).before 11 t d = iblk m c 11 t :=
  before0_11_of m (dats m 0 c) (A_eq m c 11) (after_11 m c) t d

/-- The two scratch buffers, each owned at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) (Memref.whole cc0_scratch0) fullShare d) ∗ (∃ d, owns (c : Thread nD τ) (Memref.whole cc0_scratch1) fullShare d)) := by
  rw [scopedRest0_eq]; simp only [owns_whole]

/-- What the body is called with at the point. -/
def bodyPre (c : Dev nD) (t : Fin cfg0.N) : sProp 𝕄 :=
  iprop((dats m 0 c).Φ t.castSucc ∗ (dats m 0 c).owesAt () t.castSucc
    ∗ (∃ d, owns (c : Thread nD τ) (Memref.whole cc0_stg0_0) fullShare ((dats m 0 c).before 0 t d)) ∗ (∃ d, owns (c : Thread nD τ) (Memref.whole cc0_stg1_0) fullShare ((dats m 0 c).before 1 t d)) ∗ (∃ d, owns (c : Thread nD τ) (Memref.whole cc0_stg2_0) fullShare ((dats m 0 c).before 2 t d)) ∗ (∃ d, owns (c : Thread nD τ) (Memref.whole cc0_stg3_0) fullShare ((dats m 0 c).before 3 t d)) ∗ (∃ d, owns (c : Thread nD τ) (Memref.whole cc0_stg4_0) fullShare ((dats m 0 c).before 4 t d)) ∗ (∃ d, owns (c : Thread nD τ) (Memref.whole cc0_stg5_0) fullShare ((dats m 0 c).before 5 t d)) ∗ (∃ d, owns (c : Thread nD τ) (Memref.whole cc0_stg6_0) fullShare ((dats m 0 c).before 6 t d)) ∗ (∃ d, owns (c : Thread nD τ) (Memref.whole cc0_stg7_0) fullShare ((dats m 0 c).before 7 t d)) ∗ (∃ d, owns (c : Thread nD τ) (Memref.whole cc0_stg8_0) fullShare ((dats m 0 c).before 8 t d)) ∗ (∃ d, owns (c : Thread nD τ) (Memref.whole cc0_stg9_0) fullShare ((dats m 0 c).before 9 t d)) ∗ (∃ d, owns (c : Thread nD τ) (Memref.whole cc0_stg10_0) fullShare ((dats m 0 c).before 10 t d)) ∗ (∃ d, owns (c : Thread nD τ) (Memref.whole cc0_stg11_0) fullShare ((dats m 0 c).before 11 t d)) ∗ (∃ d, owns (c : Thread nD τ) (Memref.whole cc0_stg12_0) fullShare ((dats m 0 c).before 12 t d)))
/-- What it returns. -/
def bodyPost (c : Dev nD) (t : Fin cfg0.N) : sProp 𝕄 :=
  iprop((dats m 0 c).Φ t.succ ∗ (dats m 0 c).owesAt () t.succ
    ∗ owns (c : Thread nD τ) (Memref.whole cc0_stg0_0) fullShare ((dats m 0 c).after 0 t) ∗ owns (c : Thread nD τ) (Memref.whole cc0_stg1_0) fullShare ((dats m 0 c).after 1 t) ∗ owns (c : Thread nD τ) (Memref.whole cc0_stg2_0) fullShare ((dats m 0 c).after 2 t) ∗ owns (c : Thread nD τ) (Memref.whole cc0_stg3_0) fullShare ((dats m 0 c).after 3 t) ∗ owns (c : Thread nD τ) (Memref.whole cc0_stg4_0) fullShare ((dats m 0 c).after 4 t) ∗ owns (c : Thread nD τ) (Memref.whole cc0_stg5_0) fullShare ((dats m 0 c).after 5 t) ∗ owns (c : Thread nD τ) (Memref.whole cc0_stg6_0) fullShare ((dats m 0 c).after 6 t) ∗ owns (c : Thread nD τ) (Memref.whole cc0_stg7_0) fullShare ((dats m 0 c).after 7 t) ∗ owns (c : Thread nD τ) (Memref.whole cc0_stg8_0) fullShare ((dats m 0 c).after 8 t) ∗ owns (c : Thread nD τ) (Memref.whole cc0_stg9_0) fullShare ((dats m 0 c).after 9 t) ∗ owns (c : Thread nD τ) (Memref.whole cc0_stg10_0) fullShare ((dats m 0 c).after 10 t) ∗ owns (c : Thread nD τ) (Memref.whole cc0_stg11_0) fullShare ((dats m 0 c).after 11 t) ∗ owns (c : Thread nD τ) (Memref.whole cc0_stg12_0) fullShare ((dats m 0 c).after 12 t))

/-- The body at the point: the invariant opened, the triple of the body, the invariant closed. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scoped_eq]
  simp only [before_0, before_1, before_2, before_3, before_4, before_5, before_6, before_7, before_8, before_9, before_10, before_11, after_0, after_1, after_2, after_3, after_4, after_5, after_6, after_7, after_8, after_9, after_10, after_11, after_12]
  unfold owns
  iintro ⟨⟨⟨⟨%e0, %s0, -, HS0⟩, ⟨%e1, %s1, -, HS1⟩⟩, Hg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩⟩
  replace h0 : f0 = iblk m c 0 t := h0
  subst h0
  replace h1 : f1 = iblk m c 1 t := h1
  subst h1
  replace h2 : f2 = iblk m c 2 t := h2
  subst h2
  replace h3 : f3 = iblk m c 3 t := h3
  subst h3
  replace h4 : f4 = iblk m c 4 t := h4
  subst h4
  replace h5 : f5 = iblk m c 5 t := h5
  subst h5
  replace h6 : f6 = iblk m c 6 t := h6
  subst h6
  replace h7 : f7 = iblk m c 7 t := h7
  subst h7
  replace h8 : f8 = iblk m c 8 t := h8
  subst h8
  replace h9 : f9 = iblk m c 9 t := h9
  subst h9
  replace h10 : f10 = iblk m c 10 t := h10
  subst h10
  replace h11 : f11 = iblk m c 11 t := h11
  subst h11
  iapply (kernelRun c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) f12 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, H8, H9, H10, H11, H12, ⟨%s0', HS0⟩, ⟨%s1', HS1⟩⟩
  isplitl [HS0 HS1 Hg]
  · isplitl [HS0 HS1]
    · isplitl [HS0]; · iexists _, s0'; isplitr; swap; (· iexact HS0); ipureintro; rfl
      iexists _, s1'; isplitr; swap; (· iexact HS1); ipureintro; rfl
    iexact Hg
  isplitl [HO]; · iexact HO
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  iexists _; isplitr; swap; · iexact H12
  ipureintro
  exact View.read_writes_full _ _ _ _ _

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation: the triple restated. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

-- the run theorem's implicit arguments are found by unifying its conclusion with this one
set_option backward.isDefEq.respectTransparency.types false in
/-- From any memory with zero counters every weakly fair execution of @main terminates, every final state has each array
    at what the library computes from the proof data, every other buffer as the host operations left it, and every
    semaphore counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The run without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every argument ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Math.Consts.lean ====
/- The constants of the two programs as real numbers: each is the number its bit pattern denotes. -/
module

public import Idealize.ShloMosaic.PureOps.Ideal
public import Idealize.ShloMosaic.PureOps.Ideal.Laws

@[expose] public section

noncomputable section

namespace Cert.Proof.Consts

open Idealize.ShloMosaic

/-- The number the pattern `0x3FC90FDA` denotes. -/
def a0 : ℝ := 6588397 / 4194304
/-- The float word of the coefficient `a0`. -/
theorem ofBits_a0 : Ideal.ofBits .f32 0x3FC90FDA#32 = ((a0 : ℝ) : EReal) := by
  simp [Ideal.ofBits, Ideal.ieee, a0, -EReal.coe_mul, -EReal.coe_neg]; norm_num

/-- The number the pattern `0xBE5BBFCA` denotes. -/
def a1 : ℝ := -7200741 / 33554432
/-- The float word of the coefficient `a1`. -/
theorem ofBits_a1 : Ideal.ofBits .f32 0xBE5BBFCA#32 = ((a1 : ℝ) : EReal) := by
  simp [Ideal.ofBits, Ideal.ieee, a1, -EReal.coe_mul, -EReal.coe_neg]; norm_num

/-- The number the pattern `0x3DB63A9E` denotes. -/
def a2 : ℝ := 5971279 / 67108864
/-- The float word of the coefficient `a2`. -/
theorem ofBits_a2 : Ideal.ofBits .f32 0x3DB63A9E#32 = ((a2 : ℝ) : EReal) := by
  simp [Ideal.ofBits, Ideal.ieee, a2, -EReal.coe_mul, -EReal.coe_neg]; norm_num

/-- The number the pattern `0xBD4D8392` denotes. -/
def a3 : ℝ := -6734281 / 134217728
/-- The float word of the coefficient `a3`. -/
theorem ofBits_a3 : Ideal.ofBits .f32 0xBD4D8392#32 = ((a3 : ℝ) : EReal) := by
  simp [Ideal.ofBits, Ideal.ieee, a3, -EReal.coe_mul, -EReal.coe_neg]; norm_num

/-- The number the pattern `0x3CFD10F8` denotes. -/
def a4 : ℝ := 2073119 / 67108864
/-- The float word of the coefficient `a4`. -/
theorem ofBits_a4 : Ideal.ofBits .f32 0x3CFD10F8#32 = ((a4 : ℝ) : EReal) := by
  simp [Ideal.ofBits, Ideal.ieee, a4, -EReal.coe_mul, -EReal.coe_neg]; norm_num

/-- The number the pattern `0xBC8BFC66` denotes. -/
def a5 : ℝ := -4587059 / 268435456
/-- The float word of the coefficient `a5`. -/
theorem ofBits_a5 : Ideal.ofBits .f32 0xBC8BFC66#32 = ((a5 : ℝ) : EReal) := by
  simp [Ideal.ofBits, Ideal.ieee, a5, -EReal.coe_mul, -EReal.coe_neg]; norm_num

/-- The number the pattern `0x3BDA90C5` denotes. -/
def a6 : ℝ := 14323909 / 2147483648
/-- The float word of the coefficient `a6`. -/
theorem ofBits_a6 : Ideal.ofBits .f32 0x3BDA90C5#32 = ((a6 : ℝ) : EReal) := by
  simp [Ideal.ofBits, Ideal.ieee, a6, -EReal.coe_mul, -EReal.coe_neg]; norm_num

/-- The number the pattern `0xBAA57A2C` denotes. -/
def a7 : ℝ := -2711179 / 2147483648
/-- The float word of the coefficient `a7`. -/
theorem ofBits_a7 : Ideal.ofBits .f32 0xBAA57A2C#32 = ((a7 : ℝ) : EReal) := by
  simp [Ideal.ofBits, Ideal.ieee, a7, -EReal.coe_mul, -EReal.coe_neg]; norm_num

/-- The float word of its magnitude, which the kernel subtracts. -/
theorem ofBits_a1_neg : Ideal.ofBits .f32 0x3E5BBFCA#32 = ((-a1 : ℝ) : EReal) := by
  simp [Ideal.ofBits, Ideal.ieee, a1, -EReal.coe_mul, -EReal.coe_neg]; norm_num

/-- The float word of its magnitude, which the kernel subtracts. -/
theorem ofBits_a3_neg : Ideal.ofBits .f32 0x3D4D8392#32 = ((-a3 : ℝ) : EReal) := by
  simp [Ideal.ofBits, Ideal.ieee, a3, -EReal.coe_mul, -EReal.coe_neg]; norm_num

/-- The float word of its magnitude, which the kernel subtracts. -/
theorem ofBits_a5_neg : Ideal.ofBits .f32 0x3C8BFC66#32 = ((-a5 : ℝ) : EReal) := by
  simp [Ideal.ofBits, Ideal.ieee, a5, -EReal.coe_mul, -EReal.coe_neg]; norm_num

/-- The number the pattern `0xBF7FFFEF` denotes. -/
def lo : ℝ := -16777199 / 16777216
/-- The float word of `lo`. -/
theorem ofBits_lo : Ideal.ofBits .f32 0xBF7FFFEF#32 = ((lo : ℝ) : EReal) := by
  simp [Ideal.ofBits, Ideal.ieee, lo, -EReal.coe_mul, -EReal.coe_neg]; norm_num

/-- The number the pattern `0x3F7FFFEF` denotes. -/
def hi : ℝ := 16777199 / 16777216
/-- The float word of `hi`. -/
theorem ofBits_hi : Ideal.ofBits .f32 0x3F7FFFEF#32 = ((hi : ℝ) : EReal) := by
  simp [Ideal.ofBits, Ideal.ieee, hi, -EReal.coe_mul, -EReal.coe_neg]; norm_num

/-- The number the pattern `0x40490FDB` denotes. -/
def pi : ℝ := 13176795 / 4194304
/-- The float word of `pi`. -/
theorem ofBits_pi : Ideal.ofBits .f32 0x40490FDB#32 = ((pi : ℝ) : EReal) := by
  simp [Ideal.ofBits, Ideal.ieee, pi, -EReal.coe_mul, -EReal.coe_neg]; norm_num

/-- The number the pattern `0x3F000000` denotes. -/
def half : ℝ := 1 / 2
/-- The float word of `half`. -/
theorem ofBits_half : Ideal.ofBits .f32 0x3F000000#32 = ((half : ℝ) : EReal) := by
  simp [Ideal.ofBits, Ideal.ieee, half, -EReal.coe_mul, -EReal.coe_neg]; norm_num

/-- The number the pattern `0x40000000` denotes. -/
def two : ℝ := 2
/-- The float word of `two`. -/
theorem ofBits_two : Ideal.ofBits .f32 0x40000000#32 = ((two : ℝ) : EReal) := by
  simp [Ideal.ofBits, Ideal.ieee, two, -EReal.coe_mul, -EReal.coe_neg]; norm_num

/-- The number the pattern `0x40A00000` denotes. -/
def five : ℝ := 5
/-- The float word of `five`. -/
theorem ofBits_five : Ideal.ofBits .f32 0x40A00000#32 = ((five : ℝ) : EReal) := by
  simp [Ideal.ofBits, Ideal.ieee, five, -EReal.coe_mul, -EReal.coe_neg]; norm_num

/-- The number the pattern `0x43800000` denotes. -/
def n256 : ℝ := 256
/-- The float word of `n256`. -/
theorem ofBits_n256 : Ideal.ofBits .f32 0x43800000#32 = ((n256 : ℝ) : EReal) := by
  simp [Ideal.ofBits, Ideal.ieee, n256, -EReal.coe_mul, -EReal.coe_neg]; norm_num

/-- The number the pattern `0x3B800000` denotes. -/
def inv256 : ℝ := 1 / 256
/-- The float word of `inv256`. -/
theorem ofBits_inv256 : Ideal.ofBits .f32 0x3B800000#32 = ((inv256 : ℝ) : EReal) := by
  simp [Ideal.ofBits, Ideal.ieee, inv256, -EReal.coe_mul, -EReal.coe_neg]; norm_num

/-- The number the pattern `0x7149F2CA` denotes. -/
def big : ℝ := 1000000015047466219876688855040
/-- The float word of `big`. -/
theorem ofBits_big : Ideal.ofBits .f32 0x7149F2CA#32 = ((big : ℝ) : EReal) := by
  simp [Ideal.ofBits, Ideal.ieee, big, -EReal.coe_mul, -EReal.coe_neg]; norm_num

/-- The number the pattern `0x2B8CBCCC` denotes. -/
def eps : ℝ := 2305843 / 2305843009213693952
/-- The float word of `eps`. -/
theorem ofBits_eps : Ideal.ofBits .f32 0x2B8CBCCC#32 = ((eps : ℝ) : EReal) := by
  simp [Ideal.ofBits, Ideal.ieee, eps, -EReal.coe_mul, -EReal.coe_neg]; norm_num

/-- The pattern `0x3F800000` denotes one. -/
theorem ofBits_one : Ideal.ofBits .f32 0x3F800000#32 = ((1 : ℝ) : EReal) := by
  simp [Ideal.ofBits, Ideal.ieee, -EReal.coe_mul]; norm_num

/-- The pattern `0x7F800000` denotes `∞`. -/
theorem ofBits_top : Ideal.ofBits .f32 0x7F800000#32 = ⊤ := by
  simp [Ideal.ofBits, Ideal.ieee]

end Cert.Proof.Consts

end
-- ==== Proof.Math.Angle.lean ====
/- The angle between two unit vectors as both programs compute it: the clip of the scalar product, the series of the arc
   cosine, and the normalisation of a vector, over the extended reals. -/
module

public import proofs.«01_k».proof.Proof.Math.Consts
public import Mathlib.Analysis.SpecialFunctions.Pow.Real

@[expose] public section

noncomputable section

namespace Cert.Proof.Angle

open Idealize.ShloMosaic Cert.Proof.Consts

/-- The power series of the arc cosine formula. -/
def series (t : ℝ) : ℝ :=
  a0 + a1 * t + a2 * t ^ 2 + a3 * t ^ 3 + a4 * t ^ 4 + a5 * t ^ 5 + a6 * t ^ 6 + a7 * t ^ 7

/-- The formula on `[0, 1]`, at the absolute value of its argument. -/
def near (x : ℝ) : ℝ := √(1 - |x|) * series |x|

/-- The arc cosine on `[-1, 1]` by the formula. -/
def arccos (x : ℝ) : ℝ := if 0 ≤ x then near x else pi - near x

/-- The series is not negative on `[0, 1]`. -/
theorem series_nonneg (t : ℝ) (h0 : 0 ≤ t) (h1 : t ≤ 1) : 0 ≤ series t := by
  have p2 : 0 ≤ t ^ 2 := by positivity
  have p4 : 0 ≤ t ^ 4 := by positivity
  have p6 : 0 ≤ t ^ 6 := by positivity
  have q3 : t ^ 3 ≤ 1 := pow_le_one₀ h0 h1
  have q5 : t ^ 5 ≤ 1 := pow_le_one₀ h0 h1
  have q7 : t ^ 7 ≤ 1 := pow_le_one₀ h0 h1
  unfold series a0 a1 a2 a3 a4 a5 a6 a7
  linarith

/-- The series is at most 2 on `[0, 1]`. -/
theorem series_le (t : ℝ) (h0 : 0 ≤ t) (h1 : t ≤ 1) : series t ≤ 2 := by
  have p3 : 0 ≤ t ^ 3 := by positivity
  have p5 : 0 ≤ t ^ 5 := by positivity
  have p7 : 0 ≤ t ^ 7 := by positivity
  have q2 : t ^ 2 ≤ 1 := pow_le_one₀ h0 h1
  have q4 : t ^ 4 ≤ 1 := pow_le_one₀ h0 h1
  have q6 : t ^ 6 ≤ 1 := pow_le_one₀ h0 h1
  unfold series a0 a1 a2 a3 a4 a5 a6 a7
  linarith

/-- The formula is not negative. -/
theorem near_nonneg (x : ℝ) (h : |x| ≤ 1) : 0 ≤ near x :=
  mul_nonneg (Real.sqrt_nonneg _) (series_nonneg _ (abs_nonneg x) h)

/-- The formula is at most 2. -/
theorem near_le (x : ℝ) (h : |x| ≤ 1) : near x ≤ 2 := by
  have hs : √(1 - |x|) ≤ 1 := Real.sqrt_le_one.mpr (by linarith [abs_nonneg x])
  calc near x ≤ 1 * series |x| := mul_le_mul_of_nonneg_right hs (series_nonneg _ (abs_nonneg x) h)
    _ ≤ 2 := by rw [one_mul]; exact series_le _ (abs_nonneg x) h

/-- An angle is at most four. -/
theorem arccos_le (x : ℝ) (h : |x| ≤ 1) : arccos x ≤ 4 := by
  unfold arccos
  split
  · linarith [near_le x h]
  · have := near_nonneg x h
    unfold pi
    linarith

/-- The greater of two reals, as an extended real. -/
theorem coe_max (x y : ℝ) : ((max x y : ℝ) : EReal) = max (x : EReal) (y : EReal) := EReal.coe_strictMono.monotone.map_max

/-- The absolute value of a real, as an extended real. -/
theorem abs_coe (x : ℝ) : max (x : EReal) (-(x : EReal)) = ((|x| : ℝ) : EReal) := by
  rw [abs_eq_max_neg, coe_max, EReal.coe_neg]

/-- The root that the formula takes, as an extended real. -/
theorem sqrt_coe (x : ℝ) (h : |x| ≤ 1) : Ideal.sqrt (((1 : ℝ) : EReal) - ((|x| : ℝ) : EReal)) = ((√(1 - |x|) : ℝ) : EReal) := by
  rw [← EReal.coe_sub, Ideal.sqrt_coe, if_neg (by linarith)]

/-- The series summed power by power. -/
theorem series_powers (t : ℝ) :
    (0 : EReal) + ↑a0 * ↑(1 : ℝ) + ↑a1 * ↑t + ↑a2 * (↑t * ↑t) + ↑a3 * (↑t * ↑t * ↑t) + ↑a4 * (↑t * ↑t * (↑t * ↑t))
      + ↑a5 * (↑t * (↑t * ↑t * (↑t * ↑t))) + ↑a6 * (↑t * ↑t * (↑t * ↑t * (↑t * ↑t))) + ↑a7 * (↑t * (↑t * ↑t) * (↑t * ↑t * (↑t * ↑t)))
      = ((series t : ℝ) : EReal) := by
  rw [← EReal.coe_zero]
  simp only [← EReal.coe_mul, ← EReal.coe_add]
  congr 1
  unfold series
  ring

/-- The series by Horner's rule, the negative coefficients subtracted. -/
theorem series_horner (t : ℝ) :
    ((((((((↑a7 : EReal) * ↑t + ↑a6) * ↑t - ↑(-a5)) * ↑t + ↑a4) * ↑t - ↑(-a3)) * ↑t + ↑a2) * ↑t - ↑(-a1)) * ↑t + ↑a0)
      = ((series t : ℝ) : EReal) := by
  simp only [← EReal.coe_mul, ← EReal.coe_add, ← EReal.coe_sub]
  congr 1
  unfold series
  ring

/-- The scalar product clipped to the open interval from −1 to 1, as a real number. -/
def clip (y : EReal) : ℝ := (min (hi : EReal) (max (lo : EReal) y)).toReal

/-- The bounds of a clipped number. -/
theorem clip_bounds (y : EReal) : (lo : EReal) ≤ min (hi : EReal) (max (lo : EReal) y) ∧ min (hi : EReal) (max (lo : EReal) y) ≤ (hi : EReal) :=
  ⟨le_min (EReal.coe_le_coe_iff.mpr (by unfold lo hi; norm_num)) (le_max_left _ _), min_le_left _ _⟩

/-- A clipped number is real, whatever was clipped. -/
theorem coe_clip (y : EReal) : ((clip y : ℝ) : EReal) = min (hi : EReal) (max (lo : EReal) y) :=
  EReal.coe_toReal (ne_top_of_le_ne_top (EReal.coe_ne_top hi) (clip_bounds y).2)
    (ne_bot_of_le_ne_bot (EReal.coe_ne_bot lo) (clip_bounds y).1)

/-- A clipped number lies in `[-1, 1]`. -/
theorem abs_clip (y : EReal) : |clip y| ≤ 1 := by
  have h := clip_bounds y
  rw [← coe_clip, EReal.coe_le_coe_iff, EReal.coe_le_coe_iff] at h
  have hlo : (-1 : ℝ) ≤ lo := by unfold lo; norm_num
  have hhi : hi ≤ 1 := by unfold hi; norm_num
  exact abs_le.mpr ⟨by linarith [h.1], by linarith [h.2]⟩

/-- The lower bound on the square of a norm is the square of the lower bound on a norm. -/
theorem eps_sq : (5316911940649 / 5316911983139663491615228241121378304 : ℝ) = eps ^ 2 := by unfold eps; norm_num

/-- The product with the reciprocal root of the bounded square is the quotient by the bounded norm. -/
theorem unit_eq (p s : EReal) (hs : 0 ≤ s) :
    p * Ideal.rsqrt (max s ((eps ^ 2 : ℝ) : EReal)) = Ideal.div p (max (Ideal.sqrt s) ((eps : ℝ) : EReal)) := by
  have he : (0 : ℝ) < eps := by unfold eps; norm_num
  induction s with
  | bot => exact absurd hs (by simp)
  | top =>
    rw [max_eq_left le_top, show Ideal.sqrt ⊤ = ⊤ from rfl, max_eq_left le_top, show Ideal.rsqrt ⊤ = 0 from rfl]
    unfold Ideal.div
    rw [if_neg (by simp)]
    simp
  | coe r =>
    have hr : 0 ≤ r := EReal.coe_nonneg.mp hs
    have hm : 0 < max r (eps ^ 2) := lt_max_of_lt_right (by positivity)
    have hq : √(max r (eps ^ 2)) = max (√r) eps := by
      rw [Real.sqrt_monotone.map_max, Real.sqrt_sq he.le]
    have hn : 0 < max (√r) eps := lt_max_of_lt_right he
    rw [← coe_max, Ideal.sqrt_coe, if_neg (not_lt.mpr hr), ← coe_max, Ideal.div_coe hn.ne', one_div, ← hq]
    show p * (if max r (eps ^ 2) < 0 then ⊥ else if max r (eps ^ 2) = 0 then ⊤ else _) = _
    rw [if_neg (not_lt.mpr hm.le), if_neg hm.ne']

end Cert.Proof.Angle

end
-- ==== Proof.Math.Lowest.lean ====
/- The five smallest numbers of a list, found by repeatedly taking the minimum and overwriting its first occurrence. The
   numbers are negated, so that "the smallest, in order" is `topList` of the library. -/
module

public import Idealize.ShloMosaic.Lib.SortNet.TopList
public import Mathlib.Data.EReal.Basic
public import Mathlib.Data.EReal.Operations
public import Mathlib.Data.Fintype.Basic
public import Mathlib.Data.List.OfFn

@[expose] public section

namespace Cert.Proof.Lowest

open Idealize.ShloMosaic.SortNet

/-- The largest entry, put in front, stays the first of the `k + 1` largest. -/
theorem topList_cons {α : Type*} [LinearOrder α] (k : ℕ) (m : α) (l : List α) (h : ∀ a ∈ l, a ≤ m) :
    topList (k + 1) (m :: l) = m :: topList k l := by
  have hs : (m :: l).insertionSort (· ≥ ·) = m :: l.insertionSort (· ≥ ·) := by
    refine eq_of_perm_of_descending ((List.perm_insertionSort (· ≥ ·) _).trans
      (List.Perm.cons m (List.perm_insertionSort (· ≥ ·) l).symm)) (List.pairwise_insertionSort (· ≥ ·) _) ?_
    exact List.Pairwise.cons (fun a ha => h a ((List.mem_insertionSort (· ≥ ·)).mp ha)) (List.pairwise_insertionSort (· ≥ ·) _)
  unfold topList
  rw [hs, List.take_succ_cons]

/-- A list indexed by `Fin (n + 1)` is, up to order, one of its entries and the rest. -/
theorem ofFn_perm {α : Type*} {n : ℕ} (f : Fin (n + 1) → α) (p : Fin (n + 1)) :
    (List.ofFn f).Perm (f p :: List.ofFn fun j : Fin n => f (p.succAbove j)) := by
  rw [← Multiset.coe_eq_coe, ← Multiset.cons_coe, ← Fin.univ_val_map, ← Fin.univ_val_map, Fin.univ_succAbove n p]
  simp [Function.comp_def]

/-- Two lists indexed by `Fin` one after the other are the list indexed by the sum. -/
theorem ofFn_append {α : Type*} {m n : ℕ} (f : Fin m → α) (g : Fin n → α) :
    List.ofFn f ++ List.ofFn g = List.ofFn (Fin.append f g) := (List.ofFn_fin_append f g).symm

/-- One round: the minimum `c p` comes first, and the later rounds see `c` with the place `p` overwritten by a number that no
    entry exceeds. -/
theorem round {n : ℕ} (k : ℕ) (hk : k ≤ n) (c c' : Fin (n + 1) → EReal) (big : EReal) (hbig : ∀ i, c i ≤ big) (p : Fin (n + 1))
    (hp : ∀ i, c p ≤ c i) (hc' : ∀ i, c' i = if i = p then big else c i) :
    topList (k + 1) (List.ofFn fun i => -c i) = -c p :: topList k (List.ofFn fun i => -c' i) := by
  have rest : ∀ j : Fin n, c' (p.succAbove j) = c (p.succAbove j) := fun j => by
    rw [hc', if_neg (Fin.succAbove_ne p j)]
  rw [topList_perm (ofFn_perm (fun i => -c i) p), topList_perm (ofFn_perm (fun i => -c' i) p), topList_cons]
  · congr 1
    rw [topList_perm (List.perm_append_singleton (-c' p) (List.ofFn fun j : Fin n => -c' (p.succAbove j))).symm, topList_append_of_le]
    · simp only [rest]
    · simpa using hk
    · intro s hs a ha
      obtain ⟨j, rfl⟩ := (List.mem_ofFn' _ _).mp (mem_of_mem_topList ha)
      rw [List.mem_singleton.mp hs, hc' p, if_pos rfl]
      show -big ≤ -c' (p.succAbove j)
      rw [rest]
      exact EReal.neg_le_neg_iff.mpr (hbig _)
  · intro a ha
    obtain ⟨j, rfl⟩ := (List.mem_ofFn' _ _).mp ha
    exact EReal.neg_le_neg_iff.mpr (hp _)

/-- Numbers that no entry exceeds do not enter the `k` smallest of at least `k`. -/
theorem drop_big (k : ℕ) (l s : List EReal) (big : EReal) (hk : k ≤ l.length) (hl : ∀ a ∈ l, -big ≤ a) (hs : ∀ a ∈ s, a = -big) :
    topList k (l ++ s) = topList k l :=
  topList_append_of_le k l s hk fun a ha b hb => by
    rw [hs a ha]; exact hl b (mem_of_mem_topList hb)

end Cert.Proof.Lowest

end
-- ==== Proof.Math.Loss.lean ====
/- The loss both programs compute, written over the extended reals as a function of the arguments' elements. -/
module

public import proofs.«01_k».proof.Proof.Math.Angle
public import proofs.«01_k».proof.Proof.Math.Lowest

@[expose] public section

noncomputable section

namespace Cert.Proof.Loss

open Idealize.ShloMosaic Idealize.ShloMosaic.SortNet Cert.Proof.Consts Cert.Proof.Angle

/-- The batch of poses. -/
abbrev Poses := Fin 256 → Fin 21 → Fin 4 → EReal
/-- The training poses. -/
abbrev Train := Fin 10000 → Fin 21 → Fin 4 → EReal

variable (P : Poses) (T : Train)

/-- A pose's quaternion divided by its norm. -/
def unit (b : Fin 256) (j : Fin 21) (a : Fin 4) : EReal :=
  Ideal.div (P b j a) (max (Ideal.sqrt (∑ k, P b j k * P b j k)) (eps : EReal))

/-- The scalar product of a training pose's quaternion and a normalised one. -/
def dot (b : Fin 256) (n : Fin 10000) (j : Fin 21) : EReal := ∑ k, T n j k * unit P b j k

/-- The distance of a pose and a training pose: half the sum of the joints' angles. -/
def dist (b : Fin 256) (n : Fin 10000) : ℝ := (∑ j : Fin 21, arccos (clip (dot P T b n j))) / 2

/-- The negated distances of a pose to the five nearest training poses, the nearest first. -/
def nearest (b : Fin 256) : List EReal := topList 5 (List.ofFn fun n : Fin 10000 => -((dist P T b n : ℝ) : EReal))

/-- The mean distance to the five nearest training poses. -/
def meanDist (b : Fin 256) : EReal := ((nearest P T b).map fun x => -x).sum * ((1 / 5 : ℝ) : EReal)

/-- A normalised pose as one row of 84 numbers. -/
def flat (b : Fin 256) (i : Fin 84) : EReal := unit P b ⟨i.val / 4, by omega⟩ ⟨i.val % 4, by omega⟩

/-- A layer of the network before its rectifier. -/
def affine {m n : ℕ} (x : Fin 256 → Fin m → EReal) (W : Fin m → Fin n → EReal) (B : Fin n → EReal) (b : Fin 256) (i : Fin n) : EReal :=
  (∑ k, x b k * W k i) + B i

/-- A layer of the network. -/
def layer {m n : ℕ} (x : Fin 256 → Fin m → EReal) (W : Fin m → Fin n → EReal) (B : Fin n → EReal) (b : Fin 256) (i : Fin n) : EReal :=
  max (affine x W B b i) 0

/-- The network's predicted distances. -/
def predict (W0 : Fin 84 → Fin 512 → EReal) (B0 : Fin 512 → EReal) (W1 : Fin 512 → Fin 512 → EReal) (B1 : Fin 512 → EReal)
    (W2 : Fin 512 → Fin 512 → EReal) (B2 : Fin 512 → EReal) (W3 : Fin 512 → Fin 1 → EReal) (B3 : Fin 1 → EReal) (b : Fin 256) : EReal :=
  affine (layer (layer (layer (flat P) W0 B0) W1 B1) W2 B2) W3 B3 b 0

/-- The mean absolute difference of the network's predictions and the mean distances. -/
def loss (pred : Fin 256 → EReal) (mean : Fin 256 → EReal) : EReal :=
  (∑ b, max (pred b - mean b) (-(pred b - mean b))) * ((1 / 256 : ℝ) : EReal)

/-- A distance is at most 42. -/
theorem dist_le (b : Fin 256) (n : Fin 10000) : dist P T b n ≤ 42 := by
  have h : ∑ j : Fin 21, arccos (clip (dot P T b n j)) ≤ ∑ _j : Fin 21, (4 : ℝ) :=
    Finset.sum_le_sum fun j _ => arccos_le _ (abs_clip _)
  simp only [Finset.sum_const, Finset.card_univ, Fintype.card_fin, nsmul_eq_mul] at h
  unfold dist
  norm_num at h ⊢
  linarith

/-- No distance exceeds the number that stands in the lanes without a candidate. -/
theorem dist_le_big (b : Fin 256) (n : Fin 10000) : ((dist P T b n : ℝ) : EReal) ≤ (big : EReal) :=
  EReal.coe_le_coe_iff.mpr ((dist_le P T b n).trans (by unfold big; norm_num))

/-- A sum of reals, as an extended real. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of squares is not negative. -/
theorem sumsq_nonneg (b : Fin 256) (j : Fin 21) : 0 ≤ ∑ k, P b j k * P b j k :=
  Finset.sum_nonneg fun k _ => by
    rcases le_total 0 (P b j k) with h | h
    · exact mul_nonneg h h
    · exact EReal.mul_nonneg_iff.mpr (Or.inr ⟨h, h⟩)

end Cert.Proof.Loss

end
-- ==== Proof.KernelIdeal.Distance.lean ====
/- The kernel's distances of the poses to one block of 1024 training poses, read at an index. -/
module

public import proofs.«01_k».proof.Proof.KernelIdeal.Run
public import proofs.«01_k».proof.Proof.Math.Loss
public import Idealize.ShloMosaic.Lib.ValueIdx
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.ValueIdx
open Cert.Proof.Consts Cert.Proof.Angle Cert.Proof.Loss

/-! ## The angle of one joint -/

/-- Column `m` of a slab of poses, spread over the lanes. -/
theorem poseCol (p : FVec Ideal S1x256x4 .f32) (m : ℕ) (a : Fin 4) (ha : a.val = m) (hs : S256x4.Slices ![0, m] S256x1) (b : Fin 256) (l : Fin 1024) :
    broadcastTo S256x1024 (extractStridedSlice S256x1 ![0, m] (shapeCast S256x4 p shapeCasts_S1x256x4_S256x4) hs) broadcasts_S256x1_S256x1024 (ix2 b l)
      = p (ix3 0 b a) := by
  subst ha
  rw [broadcastTo_apply _ _ _ (ix2 b 0) (by intro d; match d with | ⟨0, _⟩ => rfl | ⟨1, _⟩ => rfl),
    extractStridedSlice_apply _ _ _ _ (ix2 b a) (by
      intro d
      match d with
      | ⟨0, _⟩ => exact (Nat.zero_add _).symm
      | ⟨1, _⟩ => rfl),
    shapeCast_apply _ _ _ (ix3 0 b a) (by
      rw [Shape.rowMajor_val_three, Shape.rowMajor_val_two]
      show (0 * 256 + b.val) * 4 + a.val = b.val * 4 + a.val
      omega)]

/-- Row `m` of a block of training poses, spread over the poses. -/
theorem trainRow (w : FVec Ideal S1x1x4x1024 .f32) (m : ℕ) (a : Fin 4) (ha : a.val = m) (hs : S4x1024.Slices ![m, 0] S1x1024) (b : Fin 256) (l : Fin 1024) :
    broadcastTo S256x1024 (extractStridedSlice S1x1024 ![m, 0] (shapeCast S4x1024 w shapeCasts_S1x1x4x1024_S4x1024) hs) broadcasts_S1x1024_S256x1024 (ix2 b l)
      = w (ix4 0 0 a l) := by
  subst ha
  rw [broadcastTo_apply _ _ _ (ix2 0 l) (by intro d; match d with | ⟨0, _⟩ => rfl | ⟨1, _⟩ => rfl),
    extractStridedSlice_apply _ _ _ _ (ix2 a l) (by
      intro d
      match d with
      | ⟨0, _⟩ => rfl
      | ⟨1, _⟩ => exact (Nat.zero_add _).symm),
    shapeCast_apply _ _ _ (ix4 0 0 a l) (by
      rw [Shape.rowMajor_val_four, Shape.rowMajor_val_two]
      show ((0 * 1 + 0) * 4 + a.val) * 1024 + l.val = a.val * 1024 + l.val
      omega)]

/-- The clipped scalar product. -/
theorem pay2_apply (w : FVec Ideal S1x1x4x1024 .f32) (p : FVec Ideal S1x256x4 .f32) (b : Fin 256) (l : Fin 1024) :
    k0_pay2 (F := Ideal) w p (ix2 b l) = ((clip (∑ a : Fin 4, w (ix4 0 0 a l) * p (ix3 0 b a)) : ℝ) : EReal) := by
  unfold k0_pay2
  rw [coe_clip]
  simp only [minimumf_apply, maximumf_apply, addf_apply, mulf_apply, broadcast_apply]
  rw [poseCol p 0 0 rfl, poseCol p 1 1 rfl, poseCol p 2 2 rfl, poseCol p 3 3 rfl,
    trainRow w 0 0 rfl, trainRow w 1 1 rfl, trainRow w 2 2 rfl, trainRow w 3 3 rfl]
  rw [Fin.sum_univ_four, mul_comm (p (ix3 0 b 0)), mul_comm (p (ix3 0 b 1)), mul_comm (p (ix3 0 b 2)), mul_comm (p (ix3 0 b 3)),
    ← ofBits_lo, ← ofBits_hi]
  rfl

/-- The angle added to the accumulator. -/
theorem pay7_apply (acc : FVec Ideal S256x1024 .f32) (w : FVec Ideal S1x1x4x1024 .f32) (p : FVec Ideal S1x256x4 .f32) (b : Fin 256) (l : Fin 1024) :
    k0_pay7 (F := Ideal) acc (k0_pay2 w p) (k0_pay3 w p) (k0_pay4 w p) (k0_pay5 w p) (ix2 b l)
      = acc (ix2 b l) + ((arccos (clip (∑ a : Fin 4, w (ix4 0 0 a l) * p (ix3 0 b a))) : ℝ) : EReal) := by
  have hc := pay2_apply w p b l
  have hb := abs_clip (∑ a : Fin 4, w (ix4 0 0 a l) * p (ix3 0 b a))
  generalize clip (∑ a : Fin 4, w (ix4 0 0 a l) * p (ix3 0 b a)) = r at hc hb
  have h3 : k0_pay3 (F := Ideal) w p (ix2 b l) = ((|r| : ℝ) : EReal) := by
    unfold k0_pay3
    show FloatOps.absf (F := Ideal) (φ := .f32) (k0_pay2 (F := Ideal) w p (ix2 b l)) = _
    rw [hc, Ideal.absf_def, abs_coe]
  have h4 : k0_pay4 (F := Ideal) w p (ix2 b l) = ((√(1 - |r|) : ℝ) : EReal) := by
    unfold k0_pay4
    rw [← sqrt_coe r hb]
    show Ideal.sqrt (Ideal.ofBits .f32 0x3F800000#32 - k0_pay3 (F := Ideal) w p (ix2 b l)) = _
    rw [h3, ofBits_one]
  unfold k0_pay7 k0_pay5
  simp only [addf_apply, mulf_apply, subf_apply, select_apply, cmpf_apply, broadcast_apply, hc, h3, h4, Ideal.addf_def, Ideal.mulf_def, Ideal.subf_def,
    Ideal.ofBits_def, ofBits_a0, ofBits_a1_neg, ofBits_a2, ofBits_a3_neg, ofBits_a4, ofBits_a5_neg, ofBits_a6, ofBits_a7, ofBits_pi,
    Ideal.ofBits_zero_f32, Ideal.cmpf_def]
  rw [series_horner, ← EReal.coe_mul, ← EReal.coe_sub]
  congr 1
  by_cases h : 0 ≤ r
  · simp [Scalar.select, Ideal.cmp, arccos, near, h, not_lt.mpr h]
  · simp [Scalar.select, Ideal.cmp, arccos, near, h, not_le.mp h]

end Cert.Proof.KernelIdeal

end
-- ==== Proof.KernelIdeal.Round.lean ====
/- One round of the kernel's selection: a row's minimum, the first lane that holds it, and that lane replaced. -/
module

public import proofs.«01_k».proof.Proof.KernelIdeal.Run
public import proofs.«01_k».proof.Proof.Math.Loss
public import Idealize.ShloMosaic.Lib.ValueIdx
public import Idealize.ShloMosaic.Lib.Pipeline.Value
public import Idealize.ShloMosaic.Lib.SortNet.Extract

@[expose] public section

noncomputable section

namespace Cert.Proof.KernelIdeal

open Cert.KernelIdeal Cert.KernelIdeal.Gen
open Idealize.ShloMosaic Idealize.ShloMosaic.TcCoe Idealize.ShloMosaic.ValueIdx
open Cert.Proof.Consts

/-- The candidates' minimum in each row. -/
def minOf (c : FVec Ideal S256x1152 .f32) : FVec Ideal S256x1 .f32 :=
  shapeCast S256x1 (multiReduction .minimumf [1] S256 c 0x7F800000#32 reduces_S256x1152_S256 (.inl rfl) rfl) shapeCasts_S256_S256x1

/-- In each row the lane number where the candidate first equals the row's `m`, on every lane. -/
def firstOf (c : FVec Ideal S256x1152 .f32) (m : FVec Ideal S256x1 .f32) : IVec S256x1152 32 :=
  broadcastTo S256x1152
    (shapeCast S256x1
      (multiReductionI .minsi [1] S256
        (select (cmpf .oeq c (broadcastTo S256x1152 m broadcasts_S256x1_S256x1152)) lanes1152 (broadcast S256x1152 1152#32))
        2147483647#32 reduces_S256x1152_S256 rfl)
      shapeCasts_S256_S256x1)
    broadcasts_S256x1_S256x1152

/-- The candidates with the lane named by `f` at the large stand-in. -/
def dropAt (c : FVec Ideal S256x1152 .f32) (f : IVec S256x1152 32) : FVec Ideal S256x1152 .f32 :=
  select (cmpi .eq lanes1152 f) (broadcast S256x1152 (Scalar.ofBits (F := Ideal) .f32 0x7149F2CA#32)) c

/-- The candidates left after a round. -/
def nextOf (c : FVec Ideal S256x1152 .f32) : FVec Ideal S256x1152 .f32 := dropAt c (firstOf c (minOf c))

/-- The elements that are reduced to row `b`. -/
theorem lift_row (b : Fin 256) (l : Fin 1152) : reduces_S256x1152_S256.lift (ix1 b) l = ix2 b l := by
  funext d
  match d with
  | ⟨0, _⟩ => rfl
  | ⟨1, _⟩ => rfl

/-- A vector laid out as one column. -/
theorem shapeCast_col {α : Type} (x : S256.Idx → α) (b : Fin 256) : shapeCast S256x1 x shapeCasts_S256_S256x1 (ix2 b 0) = x (ix1 b) :=
  shapeCast_apply _ _ _ _ (by
    rw [Shape.rowMajor_val_one, Shape.rowMajor_val_two]
    show b.val = b.val * 1 + 0
    omega)

/-- A column repeated in every lane. -/
theorem broadcast_col {α : Type} (x : S256x1.Idx → α) (b : Fin 256) (l : Fin 1152) :
    broadcastTo S256x1152 x broadcasts_S256x1_S256x1152 (ix2 b l) = x (ix2 b 0) :=
  broadcastTo_apply _ _ _ _ (by intro d; match d with | ⟨0, _⟩ => rfl | ⟨1, _⟩ => rfl)

/-- The minimum of a row. -/
theorem minOf_apply (c : FVec Ideal S256x1152 .f32) (b : Fin 256) :
    minOf c (ix2 b 0) = Finset.univ.fold min (⊤ : EReal) fun l : Fin 1152 => c (ix2 b l) := by
  unfold minOf
  rw [shapeCast_col]
  refine (multiReduction_minimumf_eq_fold c _ _ _ _ _).trans ?_
  rw [reduces_S256x1152_S256.fold_filter_drop_single]
  have h : (c ∘ reduces_S256x1152_S256.lift (ix1 b)) = fun l : Fin 1152 => c (ix2 b l) := funext fun l => congrArg c (lift_row b l)
  rw [h]
  show Finset.univ.fold min (Ideal.ofBits .f32 0x7F800000#32) _ = _
  rw [ofBits_top]
  rfl

/-- The row's minimum is held by a lane and is below every lane. -/
theorem minOf_spec (c : FVec Ideal S256x1152 .f32) (b : Fin 256) :
    (∃ l : Fin 1152, c (ix2 b l) = minOf c (ix2 b 0)) ∧ ∀ l : Fin 1152, minOf c (ix2 b 0) ≤ c (ix2 b l) := by
  rw [minOf_apply]
  have hle : ∀ l : Fin 1152, Finset.univ.fold min (⊤ : EReal) (fun l : Fin 1152 => c (ix2 b l)) ≤ c (ix2 b l) := fun l =>
    Finset.fold_min_le _ |>.mpr (Or.inr ⟨l, Finset.mem_univ _, le_rfl⟩)
  obtain ⟨l, -, hl⟩ := Finset.exists_min_image Finset.univ (fun l : Fin 1152 => c (ix2 b l)) ⟨0, Finset.mem_univ _⟩
  exact ⟨⟨l, le_antisymm (Finset.le_fold_min _ |>.mpr ⟨le_top, fun x hx => hl x hx⟩) (hle l)⟩, hle⟩

/-- Lane numbers as integers. -/
theorem toInt_lane (n : ℕ) (h : n ≤ 1152) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- Lane `l` of the lane counter holds `l`. -/
theorem lanes1152_apply (b : Fin 256) (l : Fin 1152) : lanes1152 (ix2 b l) = BitVec.ofNat 32 l.val :=
  congrArg (BitVec.ofNat 32) (show 0 * 1152 + l.val = l.val by omega)

/-- The lane found is the first that holds the value looked for. -/
theorem firstOf_apply (c : FVec Ideal S256x1152 .f32) (m : FVec Ideal S256x1 .f32) (b : Fin 256) (p : Fin 1152)
    (hp : c (ix2 b p) = m (ix2 b 0)) (hfirst : ∀ l : Fin 1152, c (ix2 b l) = m (ix2 b 0) → p ≤ l) (l : Fin 1152) :
    firstOf c m (ix2 b l) = BitVec.ofNat 32 p.val := by
  unfold firstOf
  rw [broadcast_col, shapeCast_col]
  refine (multiReductionI_eq_fold _ _ _ _ _ _).trans ?_
  rw [reduces_S256x1152_S256.fold_filter_drop_single]
  apply BitVec.eq_of_toInt_eq
  have hg : (select (cmpf .oeq c (broadcastTo S256x1152 m broadcasts_S256x1_S256x1152)) lanes1152 (broadcast S256x1152 1152#32))
      ∘ reduces_S256x1152_S256.lift (ix1 b) = fun x : Fin 1152 => if c (ix2 b x) = m (ix2 b 0) then BitVec.ofNat 32 x.val else 1152#32 := by
    refine funext fun (x : Fin 1152) => ?_
    refine (congrArg _ (lift_row b x)).trans ?_
    rw [select_apply, cmpf_apply, broadcast_col, broadcast_apply, lanes1152_apply, Ideal.cmpf_def]
    by_cases h : c (ix2 b x) = m (ix2 b 0)
    · rw [if_pos h, h]
      simp [Ideal.cmp, Scalar.select]
    · rw [if_neg h]
      simp [Ideal.cmp, Scalar.select, h]
  refine (congrArg (fun g : Fin 1152 → BitVec 32 => (Finset.univ.fold (IKind.op .minsi) 2147483647#32 g).toInt) hg).trans ?_
  refine (Finset.fold_hom (op := IKind.op .minsi) (op' := (min : ℤ → ℤ → ℤ)) (m := BitVec.toInt)
    (fun x y => SortNet.toInt_minsi x y)).symm.trans ?_
  rw [toInt_lane p.val (by omega)]
  apply le_antisymm
  · exact Finset.fold_min_le _ |>.mpr (Or.inr ⟨p, Finset.mem_univ _, by rw [if_pos hp, toInt_lane p.val (by omega)]⟩)
  · refine Finset.le_fold_min _ |>.mpr ⟨by have : (2147483647#32).toInt = 2147483647 := by decide
                                           rw [this]; omega, fun x _ => ?_⟩
    split
    · next h =>
      rw [toInt_lane x.val (by omega)]
      exact_mod_cast hfirst x h
    · have : (1152#32).toInt = 1152 := by decide
      rw [this]
      omega

/-- ONE ROUND: some lane holds the row's minimum, which is what the round finds; that lane alone goes to the large stand-in. -/
theorem round_spec (c : FVec Ideal S256x1152 .f32) (b : Fin 256) :
    ∃ p : Fin 1152, (∀ l, c (ix2 b p) ≤ c (ix2 b l)) ∧ minOf c (ix2 b 0) = c (ix2 b p)
      ∧ ∀ l, nextOf c (ix2 b l) = if l = p then (big : EReal) else c (ix2 b l) := by
  obtain ⟨⟨l₀, h₀⟩, hle⟩ := minOf_spec c b
  let S : Finset (Fin 1152) := Finset.univ.filter fun l => c (ix2 b l) = minOf c (ix2 b 0)
  have hS : S.Nonempty := ⟨l₀, Finset.mem_filter.mpr ⟨Finset.mem_univ _, h₀⟩⟩
  have hp : c (ix2 b (S.min' hS)) = minOf c (ix2 b 0) := (Finset.mem_filter.mp (S.min'_mem hS)).2
  refine ⟨S.min' hS, fun l => hp ▸ hle l, hp.symm, fun l => ?_⟩
  have hf := firstOf_apply c (minOf c) b (S.min' hS) hp (fun l hl => S.min'_le l (Finset.mem_filter.mpr ⟨Finset.mem_univ _, hl⟩)) l
  generalize S.min' hS = p at hf hp
  unfold nextOf dropAt
  show Scalar.select (IntOp.cmpi .eq (lanes1152 (ix2 b l)) (firstOf c (minOf c) (ix2 b l))) (Ideal.ofBits .f32 0x7149F2CA#32) (c (ix2 b l)) = _
  rw [hf, lanes1152_apply, ofBits_big]
  by_cases h : l = p
  · subst h
    simp [Scalar.select, IntOp.cmpi]
  · have hne : BitVec.ofNat 32 l.val ≠ BitVec.ofNat 32 p.val := fun e => h (Fin.ext (by
      have := congrArg BitVec.toInt e
      rw [toInt_lane _ (by omega), toInt_lane _ (by omega)] at this
      exact_mod_cast this))
    rw [if_neg h]
    simp [Scalar.select, IntOp.cmpi, show (BitVec.ofNat 32 l.val == BitVec.ofNat 32 p.val) = false from beq_eq_false_iff_ne.mpr hne]

end Cert.Proof.KernelIdeal

end
-- ==== Proof.KernelIdeal.Select.lean ====
/- One trip of the outer loop on the kept rows: the five lowest of what was kept and of the trip's 1024 distances. -/
module

public import proofs.«01_k».proof.Proof.KernelIdeal.Round
public import proofs.«01_k».proof.Proof.Math.Lowest
public import Idealize.ShloMosaic.Lib.WritesUnit
public import Idealize.ShloMosaic.Lib.VecWindow

@[expose] public section

set_option maxRecDepth 8192

noncomputable section

namespace Cert.Proof.KernelIdeal

open Cert.KernelIdeal Cert.KernelIdeal.Gen
open Idealize.ShloMosaic Idealize.ShloMosaic.TcCoe Idealize.ShloMosaic.ValueIdx Idealize.ShloMosaic.SortNet
open Cert.Proof.Consts

/-! ## The candidates of a trip -/

/-- The candidates of trip `k`: what is kept, then the trip's distances. -/
abbrev cands (k : Fin k0_t1_loop.trips) (d : FVec Ideal S256x1024 .f32) (K : FVec Ideal S256x128 .f32) : FVec Ideal S256x1152 .f32 :=
  k0_pay8 lanes1024 0#32 1#32 k d K

/-- The first 128 candidates are what is kept. -/
theorem cands_left (k : Fin k0_t1_loop.trips) (d : FVec Ideal S256x1024 .f32) (K : FVec Ideal S256x128 .f32) (b : Fin 256) (i : Fin 128) :
    cands k d K (ix2 b ⟨i.val, by omega⟩) = K (ix2 b i) := by
  unfold cands k0_pay8
  exact concatenate_pair_apply_left (t := S256x1152) (s₁ := S256x128) (s₂ := S256x1024) 1 _ _ _ _ rfl (ix2 b i) (by intro a; match a with | ⟨0, _⟩ => rfl | ⟨1, _⟩ => rfl)

/-- Block `k` starts at training pose `1024 k`. -/
theorem block_start : ∀ k : Fin k0_t1_loop.trips, Scalar.muli (Scf.iv 0#32 1#32 k) 1024#32 = BitVec.ofNat 32 (1024 * k.val) := by decide

/-- The outer loop has ten trips. -/
theorem trips_lt (k : Fin k0_t1_loop.trips) : k.val < 10 := Nat.lt_of_lt_of_le k.isLt (by decide)

/-- The other 1024 candidates are the trip's sums halved, past the last training pose the large stand-in. -/
theorem cands_right (k : Fin k0_t1_loop.trips) (d : FVec Ideal S256x1024 .f32) (K : FVec Ideal S256x128 .f32) (b : Fin 256) (l : Fin 1024) :
    cands k d K (ix2 b ⟨128 + l.val, by omega⟩) = if 1024 * k.val + l.val < 10000 then d (ix2 b l) * (half : EReal) else (big : EReal) := by
  unfold cands k0_pay8
  refine (concatenate_pair_apply_right (t := S256x1152) (s₁ := S256x128) (s₂ := S256x1024) 1 _ _ _ (ix2 b ⟨128 + l.val, by omega⟩) rfl rfl (ix2 b l) (by
    intro a ha
    match a with
    | ⟨0, _⟩ => rfl
    | ⟨1, _⟩ => exact absurd rfl ha) (Nat.add_comm l.val 128)).trans ?_
  have hk := trips_lt k
  show Scalar.select (IntOp.cmpi .slt (IntOp.addi (Scalar.muli (Scf.iv 0#32 1#32 k) 1024#32) (lanes1024 (ix2 b l))) 10000#32)
    (d (ix2 b l) * Ideal.ofBits .f32 0x3F000000#32) (Ideal.ofBits .f32 0x7149F2CA#32) = _
  have hl : lanes1024 (ix2 b l) = BitVec.ofNat 32 l.val := congrArg (BitVec.ofNat 32) (show 0 * 1024 + l.val = l.val by omega)
  have hs : IntOp.addi (BitVec.ofNat 32 (1024 * k.val)) (BitVec.ofNat 32 l.val) = BitVec.ofNat 32 (1024 * k.val + l.val) :=
    (BitVec.ofNat_add _ _).symm
  have hn : (BitVec.ofNat 32 (1024 * k.val + l.val)).toInt = ((1024 * k.val + l.val : ℕ) : ℤ) := by
    have e : (BitVec.ofNat 32 (1024 * k.val + l.val)).toNat = 1024 * k.val + l.val := by
      rw [BitVec.toNat_ofNat]
      exact Nat.mod_eq_of_lt (by omega)
    rw [BitVec.toInt_eq_toNat_of_lt (by rw [e]; omega), e]
  have hm : (10000#32).toInt = 10000 := by decide
  rw [block_start, hl, hs, ofBits_half, ofBits_big]
  have hc : (BitVec.ofNat 32 (1024 * k.val + l.val)).slt 10000#32 = decide (1024 * k.val + l.val < 10000) := by
    unfold BitVec.slt
    rw [hn, hm]
    exact decide_eq_decide.mpr (by omega)
  simp only [Scalar.select, IntOp.cmpi, hc]
  by_cases h : 1024 * k.val + l.val < 10000
  · simp [h]
  · simp [h]

/-! ## The kept rows after a trip -/

section

variable (arg14 : Memref sig .tc .vmem S256x128 .f32) (X14 : BufTy.Contents (Elt Ideal) arg14.view.ty) (k : Fin k0_t1_loop.trips)
  (d : FVec Ideal S256x1024 .f32) (b : Fin 256)

/-- What is kept, by its coordinates. -/
abbrev rows (X : BufTy.Contents (Elt Ideal) arg14.view.ty) : FVec Ideal S256x128 .f32 := arg14.view.read (Elt Ideal) X

/-- The candidates before round `i`. -/
def left (c : FVec Ideal S256x1152 .f32) : ℕ → FVec Ideal S256x1152 .f32
  | 0 => c
  | i + 1 => nextOf (left c i)

/-- Column 0 receives the first round's minimum. -/
theorem stored0 (K : FVec Ideal S256x128 .f32) : k0_pay11 lanes1024 0#32 1#32 k d K = minOf (left (cands k d K) 0) := by
  unfold k0_pay11
  exact shapeCast_self _ _

/-- The candidates that the first round leaves. -/
theorem rest1 (K : FVec Ideal S256x128 .f32) : k0_pay10 lanes1024 lanes1152 0#32 1#32 k d K = left (cands k d K) 1 := rfl

/-- Where the second round finds its minimum. -/
theorem place1 (K : FVec Ideal S256x128 .f32) :
    k0_pay13 lanes1024 lanes1152 0#32 1#32 k d K = firstOf (left (cands k d K) 1) (minOf (left (cands k d K) 1)) := rfl

/-- Column 1 receives the second round's minimum. -/
theorem stored1 (K : FVec Ideal S256x128 .f32) :
    k0_pay15 (k0_pay12 lanes1024 lanes1152 0#32 1#32 k d K) = minOf (left (cands k d K) 1) := by
  unfold k0_pay15
  exact shapeCast_self _ _

/-- Column 2 receives the third round's minimum. -/
theorem stored2 (c : FVec Ideal S256x1152 .f32) : k0_pay18 lanes1152 (left c 1) (firstOf (left c 1) (minOf (left c 1))) = minOf (left c 2) := by
  unfold k0_pay18
  exact shapeCast_self _ _

/-- Column 3 receives the fourth round's minimum. -/
theorem stored3 (c : FVec Ideal S256x1152 .f32) : k0_pay20 lanes1152 (left c 1) (firstOf (left c 1) (minOf (left c 1))) = minOf (left c 3) := by
  unfold k0_pay20
  exact shapeCast_self _ _

/-- Column 4 receives the fifth round's minimum. -/
theorem stored4 (c : FVec Ideal S256x1152 .f32) : k0_pay24 (k0_pay21 lanes1152 (left c 1) (firstOf (left c 1) (minOf (left c 1)))) = minOf (left c 4) := by
  unfold k0_pay24
  exact shapeCast_self _ _

/-- Reading a column just stored. -/
theorem col_hit (v : View sig .tc .vmem S256x128 .f32) (X : BufTy.Contents (Elt Ideal) v.ty) (q : ℕ)
    (inb : ∀ a, (![0, q] : Fin 2 → ℕ) a + S256x1.size a ≤ S256x128.size a) (w : FVec Ideal S256x1 .f32) (L : List (View.Piece (Elt Ideal) S256x128 .f32))
    (n : Fin 128) (h : n.val = q) :
    v.read (Elt Ideal) (v.writes (Elt Ideal) X (⟨Rect.unit (s := S256x128) ![0, q] S256x1.size inb, w⟩ :: L)) (ix2 b n) = w (ix2 b 0) := by
  refine View.read_writes_cons_unit_of_mem v X inb w L (ix2 b n) (ix2 b 0) (off' := ![0, q]) rfl fun a => ?_
  match a with
  | ⟨0, _⟩ => exact (Nat.zero_add _).symm
  | ⟨1, _⟩ => exact h

/-- Reading past a column just stored. -/
theorem col_miss (v : View sig .tc .vmem S256x128 .f32) (X : BufTy.Contents (Elt Ideal) v.ty) (q : ℕ)
    (inb : ∀ a, (![0, q] : Fin 2 → ℕ) a + S256x1.size a ≤ S256x128.size a) (w : FVec Ideal S256x1 .f32) (L : List (View.Piece (Elt Ideal) S256x128 .f32))
    (n : Fin 128) (h : n.val ≠ q) :
    v.read (Elt Ideal) (v.writes (Elt Ideal) X (⟨Rect.unit (s := S256x128) ![0, q] S256x1.size inb, w⟩ :: L)) (ix2 b n)
      = v.read (Elt Ideal) (v.writes (Elt Ideal) X L) (ix2 b n) :=
  View.read_writes_cons_unit_of_not_mem v X inb w L (ix2 b n) (off' := ![0, q]) rfl 1 (by
    show n.val < q ∨ q + 1 ≤ n.val
    omega)

/-- The five columns stored, one after the other. -/
def stored (v : View sig .tc .vmem S256x128 .f32) (X : BufTy.Contents (Elt Ideal) v.ty) (w0 w1 w2 w3 w4 : FVec Ideal S256x1 .f32) :
    FVec Ideal S256x128 .f32 :=
  v.read (Elt Ideal) (v.writes (Elt Ideal) X
    [⟨Rect.unit (s := S256x128) ![0, 4] S256x1.size inb_S256x128_S256x1_0_4, w4⟩, ⟨Rect.unit (s := S256x128) ![0, 3] S256x1.size inb_S256x128_S256x1_0_3, w3⟩, ⟨Rect.unit (s := S256x128) ![0, 2] S256x1.size inb_S256x128_S256x1_0_2, w2⟩, ⟨Rect.unit (s := S256x128) ![0, 1] S256x1.size inb_S256x128_S256x1_0_1, w1⟩, ⟨Rect.unit (s := S256x128) ![0, 0] S256x1.size inb_S256x128_S256x1_0_0, w0⟩])

section

variable (v : View sig .tc .vmem S256x128 .f32) (X : BufTy.Contents (Elt Ideal) v.ty) (w0 w1 w2 w3 w4 : FVec Ideal S256x1 .f32)

/-- Column 0 after the five stores. -/
theorem stored_col0 : stored v X w0 w1 w2 w3 w4 (ix2 b 0) = w0 (ix2 b 0) := by
  unfold stored
  rw [col_miss b v X 4 _ _ _ 0 (by decide), col_miss b v X 3 _ _ _ 0 (by decide), col_miss b v X 2 _ _ _ 0 (by decide), col_miss b v X 1 _ _ _ 0 (by decide)]
  exact col_hit b v X 0 _ _ _ 0 rfl

/-- Column 1 after the five stores. -/
theorem stored_col1 : stored v X w0 w1 w2 w3 w4 (ix2 b 1) = w1 (ix2 b 0) := by
  unfold stored
  rw [col_miss b v X 4 _ _ _ 1 (by decide), col_miss b v X 3 _ _ _ 1 (by decide), col_miss b v X 2 _ _ _ 1 (by decide)]
  exact col_hit b v X 1 _ _ _ 1 rfl

/-- Column 2 after the five stores. -/
theorem stored_col2 : stored v X w0 w1 w2 w3 w4 (ix2 b 2) = w2 (ix2 b 0) := by
  unfold stored
  rw [col_miss b v X 4 _ _ _ 2 (by decide), col_miss b v X 3 _ _ _ 2 (by decide)]
  exact col_hit b v X 2 _ _ _ 2 rfl

/-- Column 3 after the five stores. -/
theorem stored_col3 : stored v X w0 w1 w2 w3 w4 (ix2 b 3) = w3 (ix2 b 0) := by
  unfold stored
  rw [col_miss b v X 4 _ _ _ 3 (by decide)]
  exact col_hit b v X 3 _ _ _ 3 rfl

/-- Column 4 after the five stores. -/
theorem stored_col4 : stored v X w0 w1 w2 w3 w4 (ix2 b 4) = w4 (ix2 b 0) := by
  unfold stored
  exact col_hit b v X 4 _ _ _ 4 rfl

/-- The five stores leave the other columns alone. -/
theorem stored_other (n : Fin 128) (h : 5 ≤ n.val) : stored v X w0 w1 w2 w3 w4 (ix2 b n) = v.read (Elt Ideal) X (ix2 b n) := by
  unfold stored
  rw [col_miss b v X 4 _ _ _ n (by omega), col_miss b v X 3 _ _ _ n (by omega), col_miss b v X 2 _ _ _ n (by omega), col_miss b v X 1 _ _ _ n (by omega), col_miss b v X 0 _ _ _ n (by omega)]
  rfl

end

/-- A trip stores the five rounds' minima. -/
theorem kept_eq : rows arg14 (kept arg14 X14 k d)
    = stored arg14.view X14 (minOf (left (cands k d (rows arg14 X14)) 0)) (minOf (left (cands k d (rows arg14 X14)) 1))
        (minOf (left (cands k d (rows arg14 X14)) 2)) (minOf (left (cands k d (rows arg14 X14)) 3)) (minOf (left (cands k d (rows arg14 X14)) 4)) := by
  have hv : View.readAt (Elt Ideal) arg14.view (Rect.unit (s := S256x128) ![0, 0] S256x128.size inb_S256x128_S256x128_0_0).toLoadRect X14
      = rows arg14 X14 := View.readAt_full _ _ _
  unfold kept
  simp only [hv, rest1, place1, stored0, stored1, stored2, stored3, stored4]
  unfold rows stored
  rfl

/-- Column `i < 5` holds the minimum of round `i`. -/
theorem kept_low (i : Fin 5) :
    rows arg14 (kept arg14 X14 k d) (ix2 b ⟨i.val, by omega⟩) = minOf (left (cands k d (rows arg14 X14)) i.val) (ix2 b 0) := by
  rw [kept_eq]
  match i with
  | ⟨0, _⟩ => exact stored_col0 b _ _ _ _ _ _ _
  | ⟨1, _⟩ => exact stored_col1 b _ _ _ _ _ _ _
  | ⟨2, _⟩ => exact stored_col2 b _ _ _ _ _ _ _
  | ⟨3, _⟩ => exact stored_col3 b _ _ _ _ _ _ _
  | ⟨4, _⟩ => exact stored_col4 b _ _ _ _ _ _ _

/-- The other columns stay as they were. -/
theorem kept_high (i : Fin 128) (hi : 5 ≤ i.val) :
    rows arg14 (kept arg14 X14 k d) (ix2 b i) = rows arg14 X14 (ix2 b i) := by
  rw [kept_eq]
  exact stored_other b _ _ _ _ _ _ _ i hi

end

/-! ## The five rounds -/

/-- The negated candidates of row `b`. -/
abbrev negRow (c : FVec Ideal S256x1152 .f32) (b : Fin 256) : List EReal := List.ofFn fun i : Fin 1152 => -c (ix2 b i)

/-- One round takes the greatest negated candidate, and its candidates stay below the large stand-in. -/
theorem round_list (c : FVec Ideal S256x1152 .f32) (b : Fin 256) (k : ℕ) (hk : k ≤ 1151) (hc : ∀ i, c (ix2 b i) ≤ (big : EReal)) :
    topList (k + 1) (negRow c b) = -minOf c (ix2 b 0) :: topList k (negRow (nextOf c) b) ∧ ∀ i, nextOf c (ix2 b i) ≤ (big : EReal) := by
  obtain ⟨p, hp, hm, hn⟩ := round_spec c b
  refine ⟨?_, fun i => ?_⟩
  · rw [hm]
    exact Lowest.round (n := 1151) k hk (fun i => c (ix2 b i)) (fun i => nextOf c (ix2 b i)) big hc p hp hn
  · rw [hn]
    split
    · exact le_rfl
    · exact hc i

/-- The five minima, negated, are the five greatest of the negated candidates. -/
theorem five_rounds (c : FVec Ideal S256x1152 .f32) (b : Fin 256) (hc : ∀ i, c (ix2 b i) ≤ (big : EReal)) :
    topList 5 (negRow c b) = List.ofFn fun i : Fin 5 => -minOf (left c i.val) (ix2 b 0) := by
  obtain ⟨h0, c1⟩ := round_list c b 4 (by decide) hc
  obtain ⟨h1, c2⟩ := round_list _ b 3 (by decide) c1
  obtain ⟨h2, c3⟩ := round_list _ b 2 (by decide) c2
  obtain ⟨h3, c4⟩ := round_list _ b 1 (by decide) c3
  obtain ⟨h4, -⟩ := round_list _ b 0 (by decide) c4
  rw [h0, h1, h2, h3, h4]
  rfl

/-! ## The invariant -/

/-- Row `b` of what is kept holds the negated list `R` in its first five columns and the large stand-in in the others. -/
def Holds (K : FVec Ideal S256x128 .f32) (b : Fin 256) (R : List EReal) : Prop :=
  (R = List.ofFn fun i : Fin 5 => -K (ix2 b ⟨i.val, by omega⟩)) ∧ ∀ i : Fin 128, 5 ≤ i.val → K (ix2 b i) = (big : EReal)

/-- A list given by a function of its positions, over the range. -/
theorem ofFn_eq_range {α : Type*} (n : ℕ) (f : ℕ → α) : (List.ofFn fun i : Fin n => f i.val) = (List.range n).map f := by
  apply List.ext_getElem
  · simp
  · intro i h1 h2
    simp

/-- ONE TRIP: the row holds afterwards the five greatest of what it held and of the trip's negated distances. -/
theorem kept_holds (arg14 : Memref sig .tc .vmem S256x128 .f32) (X14 : BufTy.Contents (Elt Ideal) arg14.view.ty) (k : Fin k0_t1_loop.trips)
    (d : FVec Ideal S256x1024 .f32) (b : Fin 256) (R : List EReal) (val : ℕ → EReal) (hR : Holds (rows arg14 X14) b R)
    (hbig : ∀ a ∈ R, -(big : EReal) ≤ a) (hvb : ∀ n, -(big : EReal) ≤ val n)
    (hval : ∀ l : Fin 1024, -(if 1024 * k.val + l.val < 10000 then d (ix2 b l) * (half : EReal) else (big : EReal)) = val (1024 * k.val + l.val)) :
    Holds (rows arg14 (kept arg14 X14 k d)) b (topList 5 (R ++ (List.range 1024).map fun l => val (1024 * k.val + l))) := by
  set c := cands k d (rows arg14 X14) with hc
  have hleft : (List.ofFn fun i : Fin 128 => -c (ix2 b ⟨i.val, by omega⟩)) = R ++ List.replicate 123 (-(big : EReal)) := by
    rw [hR.1, ← List.ofFn_const, Lowest.ofFn_append]
    refine congrArg List.ofFn (funext fun i : Fin (5 + 123) => ?_)
    rw [hc, cands_left]
    induction i using Fin.addCases with
    | left i => rw [Fin.append_left]; rfl
    | right i => rw [Fin.append_right, hR.2 _ (show 5 ≤ 5 + i.val by omega)]
  have hright : (List.ofFn fun l : Fin 1024 => -c (ix2 b ⟨128 + l.val, by omega⟩)) = (List.range 1024).map fun l => val (1024 * k.val + l) := by
    rw [← ofFn_eq_range]
    exact congrArg List.ofFn (funext fun l => by rw [hc, cands_right, hval])
  have hrow : negRow c b = (R ++ List.replicate 123 (-(big : EReal))) ++ (List.range 1024).map fun l => val (1024 * k.val + l) := by
    rw [← hleft, ← hright, Lowest.ofFn_append]
    refine congrArg List.ofFn (funext fun i : Fin (128 + 1024) => ?_)
    induction i using Fin.addCases with
    | left i => rw [Fin.append_left]; rfl
    | right i => rw [Fin.append_right]; rfl
  have hlen : R.length = 5 := by rw [hR.1, List.length_ofFn]
  have hge : ∀ a ∈ negRow c b, -(big : EReal) ≤ a := by
    intro a ha
    rw [hrow] at ha
    rcases List.mem_append.mp ha with h | h
    · rcases List.mem_append.mp h with h | h
      · exact hbig a h
      · rw [(List.mem_replicate.mp h).2]
    · obtain ⟨l, -, rfl⟩ := List.mem_map.mp h
      exact hvb _
  have hcb : ∀ i, c (ix2 b i) ≤ (big : EReal) := fun i =>
    EReal.neg_le_neg_iff.mp (hge _ (List.mem_ofFn.mpr ⟨i, rfl⟩))
  have htop : topList 5 (R ++ (List.range 1024).map fun l => val (1024 * k.val + l)) = topList 5 (negRow c b) := by
    rw [hrow, topList_perm (l₁ := (R ++ List.replicate 123 (-(big : EReal))) ++ _)
      (l₂ := (R ++ (List.range 1024).map fun l => val (1024 * k.val + l)) ++ List.replicate 123 (-(big : EReal)))
      (by rw [List.append_assoc, List.append_assoc]; exact List.Perm.append_left R List.perm_append_comm)]
    refine (Lowest.drop_big 5 _ _ big (by rw [List.length_append, hlen]; omega) (fun a ha => ?_) (fun a ha => (List.mem_replicate.mp ha).2)).symm
    rcases List.mem_append.mp ha with h | h
    · exact hbig a h
    · obtain ⟨l, -, rfl⟩ := List.mem_map.mp h
      exact hvb _
  refine ⟨?_, fun i hi => (kept_high arg14 X14 k d b i hi).trans (hR.2 i hi)⟩
  rw [htop, five_rounds c b hcb]
  exact congrArg List.ofFn (funext fun i => by rw [kept_low])

end Cert.Proof.KernelIdeal

end
-- ==== Proof.KernelIdeal.Nearest.lean ====
/- What the kernel keeps after all its trips: for each pose the five lowest distances to the training poses. -/
module

public import proofs.«01_k».proof.Proof.KernelIdeal.Distance
public import proofs.«01_k».proof.Proof.KernelIdeal.Select

@[expose] public section

noncomputable section

namespace Cert.Proof.KernelIdeal

open Cert.KernelIdeal Cert.KernelIdeal.Gen
open Idealize.ShloMosaic Idealize.ShloMosaic.TcCoe Idealize.ShloMosaic.ValueIdx Idealize.ShloMosaic.SortNet
open Cert.Proof.Consts Cert.Proof.Angle Cert.Proof.Loss

/-! ## The normalised poses -/

/-- The named bound is the square of the bound on a norm. -/
theorem named_eps_sq : Named.named (F := Ideal) (φ := .f32) κ "eps_sq" 0x179ABE15#32 = ((eps ^ 2 : ℝ) : EReal) := by
  rw [← eps_sq]
  exact IdealRules.named_const.ideal_named_scalar _ _ _ _ rfl

/-- The kernel's normalised poses are the mathematical ones. -/
theorem pay22_apply (x : FVec Ideal S21x256x4 .f32) (P : Poses) (hP : ∀ j b a, x (ix3 j b a) = P b j a) (j : Fin 21) (b : Fin 256) (a : Fin 4) :
    k0_pay22 (F := Ideal) x (ix3 j b a) = unit P b j a := by
  have hl : ∀ k : Fin 4, reduces_S21x256x4_S21x256.lift (ix2 j b) k = ix3 j b k := by
    intro k
    funext d
    match d with
    | ⟨0, _⟩ => rfl
    | ⟨1, _⟩ => rfl
    | ⟨2, _⟩ => rfl
  unfold k0_pay22
  simp only [shapeCast_self]
  show x (ix3 j b a) * broadcastTo S21x256x4 (rsqrt (F := Ideal) (φ := .f32) (maximumf (shapeCast S21x256x1 (multiReduction .add [2] S21x256 (mulf x x) 0x00000000#32 reduces_S21x256x4_S21x256 (.inl rfl) rfl) shapeCasts_S21x256_S21x256x1)
    (broadcast S21x256x1 (Named.named (F := Ideal) (φ := .f32) κ "eps_sq" 0x179ABE15#32)))) broadcasts_S21x256x1_S21x256x4 (ix3 j b a) = _
  rw [broadcastTo_apply _ _ _ (ix3 j b 0) (by intro d; match d with | ⟨0, _⟩ => rfl | ⟨1, _⟩ => rfl | ⟨2, _⟩ => rfl)]
  show x (ix3 j b a) * Ideal.rsqrt (max (shapeCast S21x256x1 (multiReduction .add [2] S21x256 (mulf x x) 0x00000000#32 reduces_S21x256x4_S21x256 (.inl rfl) rfl) shapeCasts_S21x256_S21x256x1 (ix3 j b 0))
    (Named.named (F := Ideal) (φ := .f32) κ "eps_sq" 0x179ABE15#32)) = _
  rw [shapeCast_apply _ _ _ (ix2 j b) (by
      rw [Shape.rowMajor_val_two, Shape.rowMajor_val_three]
      show j.val * 256 + b.val = (j.val * 256 + b.val) * 1 + 0
      omega)]
  rw [named_eps_sq]
  have hs : ∑ k : Fin 4, mulf (F := Ideal) x x (reduces_S21x256x4_S21x256.lift (ix2 j b) k) = ∑ k, P b j k * P b j k :=
    Finset.sum_congr rfl fun k _ => by
      rw [hl]
      show x (ix3 j b k) * x (ix3 j b k) = _
      rw [hP]
  refine (congrArg (fun s => x (ix3 j b a) * Ideal.rsqrt (max s ((eps ^ 2 : ℝ) : EReal)))
    ((Ideal.multiReduction_add_single _ _ _ _ _ _).trans hs)).trans ?_
  rw [hP]
  exact unit_eq _ _ (sumsq_nonneg P b j)

/-! ## The distances of one block -/

section

variable (arg2 : Memref sig .tc .vmem S10x21x4x1024 .f32) (arg13 : Memref sig .tc .vmem S21x256x4 .f32)
  (X2 : BufTy.Contents (Elt Ideal) arg2.view.ty) (X13 : BufTy.Contents (Elt Ideal) arg13.view.ty)

/-- The outer loop's counter is the trip's number. -/
theorem outer_index : ∀ k : Fin k0_t1_loop.trips, (Scalar.indexCast (Scf.iv 0#32 1#32 k) : Index).toNat = k.val := by decide
/-- The inner loop's counter is the trip's number. -/
theorem inner_index : ∀ j : Fin k0_t2_loop.trips, (Scalar.indexCast (Scf.iv 0#32 1#32 j) : Index).toNat = j.val := by decide

/-- One inner trip for each joint. -/
theorem inner_trips : k0_t2_loop.trips = 21 := by decide
/-- One outer trip for each block of training poses. -/
theorem outer_trips : k0_t1_loop.trips = 10 := by decide

/-- The block a trip reads. -/
theorem trainBlk_apply (k : Fin k0_t1_loop.trips) (j : Fin k0_t2_loop.trips) (a : Fin 4) (l : Fin 1024) :
    trainBlk arg2 X2 k j (ix4 0 0 a l)
      = arg2.view.read (Elt Ideal) X2 (ix4 ⟨k.val, trips_lt k⟩ ⟨j.val, inner_trips ▸ j.isLt⟩ a l) := by
  unfold trainBlk
  refine congrArg (arg2.view.read (Elt Ideal) X2) (funext fun d => Fin.ext ?_)
  match d with
  | ⟨0, _⟩ =>
    show (Scalar.indexCast (Scf.iv 0#32 1#32 k) : Index).toNat + 1 * 0 = k.val
    rw [outer_index]
    omega
  | ⟨1, _⟩ =>
    show (Scalar.indexCast (Scf.iv 0#32 1#32 j) : Index).toNat + 1 * 0 = j.val
    rw [inner_index]
    omega
  | ⟨2, _⟩ => show 0 + 1 * a.val = a.val; omega
  | ⟨3, _⟩ => show 0 + 1 * l.val = l.val; omega

/-- The slab of poses a trip reads. -/
theorem poseBlk_apply (j : Fin k0_t2_loop.trips) (b : Fin 256) (a : Fin 4) :
    poseBlk arg13 X13 j (ix3 0 b a) = arg13.view.read (Elt Ideal) X13 (ix3 ⟨j.val, inner_trips ▸ j.isLt⟩ b a) := by
  unfold poseBlk
  refine congrArg (arg13.view.read (Elt Ideal) X13) (funext fun d => Fin.ext ?_)
  match d with
  | ⟨0, _⟩ =>
    show (Scalar.indexCast (Scf.iv 0#32 1#32 j) : Index).toNat + 1 * 0 = j.val
    rw [inner_index]
    omega
  | ⟨1, _⟩ => show 0 + 1 * b.val = b.val; omega
  | ⟨2, _⟩ => show 0 + 1 * a.val = a.val; omega

variable (P : Poses) (T : Train)
  (hU : ∀ j b a, arg13.view.read (Elt Ideal) X13 (ix3 j b a) = unit P b j a)
  (hT : ∀ (k : Fin 10) (j : Fin 21) (a : Fin 4) (l : Fin 1024) (h : 1024 * k.val + l.val < 10000),
    arg2.view.read (Elt Ideal) X2 (ix4 k j a l) = T ⟨1024 * k.val + l.val, h⟩ j a)

include hU hT

/-- The accumulator before trip `n` holds the first `n` joints' angles. -/
theorem acc_apply (k : Fin k0_t1_loop.trips) (b : Fin 256) (l : Fin 1024) (h : 1024 * k.val + l.val < 10000) : ∀ n : ℕ, n ≤ 21 →
    acc arg2 arg13 X2 X13 k n (ix2 b l)
      = ((∑ j ∈ Finset.range n, (if hj : j < 21 then arccos (clip (dot P T b ⟨1024 * k.val + l.val, h⟩ ⟨j, hj⟩)) else 0) : ℝ) : EReal) := by
  intro n
  induction n with
  | zero =>
    intro _
    show Ideal.ofBits .f32 0x00000000#32 = _
    rw [Ideal.ofBits_zero_f32, Finset.sum_range_zero, EReal.coe_zero]
  | succ n ih =>
    intro hn
    have hn' : n < k0_t2_loop.trips := inner_trips ▸ hn
    rw [acc, dif_pos hn', Finset.sum_range_succ, EReal.coe_add, ← ih (by omega), dif_pos (show n < 21 by omega)]
    unfold accStep
    rw [pay7_apply]
    have hd : ∑ a : Fin 4, trainBlk arg2 X2 k ⟨n, hn'⟩ (ix4 0 0 a l) * poseBlk arg13 X13 ⟨n, hn'⟩ (ix3 0 b a)
        = dot P T b ⟨1024 * k.val + l.val, h⟩ ⟨n, hn⟩ := by
      unfold dot
      refine Finset.sum_congr rfl fun a _ => ?_
      rw [trainBlk_apply, poseBlk_apply, hU, hT ⟨k.val, trips_lt k⟩ _ a l h]
    rw [hd]

/-- The trip's candidate for a training pose is its distance. -/
theorem half_acc (k : Fin k0_t1_loop.trips) (b : Fin 256) (l : Fin 1024) (h : 1024 * k.val + l.val < 10000) :
    acc arg2 arg13 X2 X13 k k0_t2_loop.trips (ix2 b l) * (half : EReal) = ((Loss.dist P T b ⟨1024 * k.val + l.val, h⟩ : ℝ) : EReal) := by
  rw [inner_trips, acc_apply arg2 arg13 X2 X13 P T hU hT k b l h 21 le_rfl, ← EReal.coe_mul, Finset.sum_range]
  unfold Loss.dist half
  rw [mul_one_div]
  simp only [Fin.is_lt, dite_true, Fin.eta]

/-! ## All the trips -/

omit hU hT in
/-- The negated distance of pose `b` to training pose `n`, past the last one the negated large stand-in. -/
def negDist (b : Fin 256) (n : ℕ) : EReal := if h : n < 10000 then -((Loss.dist P T b ⟨n, h⟩ : ℝ) : EReal) else -(big : EReal)

omit hU hT in
/-- No negated distance is below the negated large stand-in. -/
theorem negDist_ge (b : Fin 256) (n : ℕ) : -(big : EReal) ≤ negDist P T b n := by
  unfold negDist
  split
  · exact EReal.neg_le_neg_iff.mpr (dist_le_big P T b _)
  · exact le_rfl

/-- Before trip `n` each row keeps the five lowest among the first `n` blocks' distances (and the large stand-in). -/
theorem keptAt_holds (arg14 : Memref sig .tc .vmem S256x128 .f32) (b : Fin 256) : ∀ n : ℕ, n ≤ 10 →
    Holds (rows arg14 (keptAt arg2 arg13 arg14 X2 X13 (keptInit arg14) n)) b
      (topList 5 (List.replicate 5 (-(big : EReal)) ++ (List.range (1024 * n)).map (negDist P T b))) := by
  intro n
  induction n with
  | zero =>
    intro _
    have hr : ∀ i : Fin 128, rows arg14 (keptAt arg2 arg13 arg14 X2 X13 (keptInit arg14) 0) (ix2 b i) = (big : EReal) := by
      intro i
      have hw : rows arg14 (keptAt arg2 arg13 arg14 X2 X13 (keptInit arg14) 0) = k0_pay23 (F := Ideal) := View.read_writes_full _ _ _ _ _
      rw [hw]
      unfold k0_pay23
      rw [shapeCast_self]
      exact ofBits_big
    refine ⟨?_, fun i _ => hr i⟩
    have hrep : topList 5 (List.replicate 5 (-(big : EReal)) ++ (List.range (1024 * 0)).map (negDist P T b)) = List.replicate 5 (-(big : EReal)) := by
      refine List.eq_replicate_iff.mpr ⟨by rw [length_topList]; simp, fun a ha => ?_⟩
      have := mem_of_mem_topList ha
      simp at this
      exact this
    rw [hrep, ← List.ofFn_const]
    exact congrArg List.ofFn (funext fun i => by rw [hr])
  | succ n ih =>
    intro hn
    have hn' : n < k0_t1_loop.trips := outer_trips ▸ hn
    rw [keptAt, dif_pos hn']
    have hstep := kept_holds arg14 _ ⟨n, hn'⟩ (acc arg2 arg13 X2 X13 ⟨n, hn'⟩ k0_t2_loop.trips) b _ (negDist P T b) (ih (by omega)) ?_ (negDist_ge P T b) ?_
    · rw [topList_append_topList, List.append_assoc] at hstep
      rw [Nat.mul_succ, List.range_add, List.map_append, List.map_map]
      exact hstep
    · intro a ha
      rcases List.mem_append.mp (mem_of_mem_topList ha) with h | h
      · rw [(List.mem_replicate.mp h).2]
      · obtain ⟨i, -, rfl⟩ := List.mem_map.mp h
        exact negDist_ge P T b i
    · intro l
      unfold negDist
      by_cases h : 1024 * n + l.val < 10000
      · rw [if_pos h, dif_pos h, half_acc arg2 arg13 X2 X13 P T hU hT ⟨n, hn'⟩ b l h]
      · rw [if_neg h, dif_neg h]

/-- AFTER ALL THE TRIPS each row keeps the five lowest distances. -/
theorem kept_nearest (arg14 : Memref sig .tc .vmem S256x128 .f32) (b : Fin 256) :
    Holds (rows arg14 (keptAt arg2 arg13 arg14 X2 X13 (keptInit arg14) k0_t1_loop.trips)) b (nearest P T b) := by
  have h := keptAt_holds arg2 arg13 X2 X13 P T hU hT arg14 b 10 le_rfl
  have hl : (List.range (1024 * 10)).map (negDist P T b)
      = (List.ofFn fun n : Fin 10000 => -((Loss.dist P T b n : ℝ) : EReal)) ++ List.replicate 240 (-(big : EReal)) := by
    rw [show 1024 * 10 = 10000 + 240 from rfl, List.range_add, List.map_append, List.map_map]
    refine congrArg₂ (· ++ ·) ?_ ?_
    · rw [← ofFn_eq_range]
      exact congrArg List.ofFn (funext fun n => by unfold negDist; rw [dif_pos n.isLt])
    · refine List.eq_replicate_iff.mpr ⟨by simp, fun a ha => ?_⟩
      obtain ⟨i, -, rfl⟩ := List.mem_map.mp ha
      exact dif_neg (show ¬(10000 + i < 10000) by omega)
  have hge : ∀ a ∈ List.ofFn fun n : Fin 10000 => -((Loss.dist P T b n : ℝ) : EReal), -(big : EReal) ≤ a := by
    intro a ha
    obtain ⟨n, rfl⟩ := List.mem_ofFn.mp ha
    exact EReal.neg_le_neg_iff.mpr (dist_le_big P T b n)
  have hn : topList 5 (List.replicate 5 (-(big : EReal)) ++ (List.range (1024 * 10)).map (negDist P T b)) = nearest P T b := by
    rw [topList_perm List.perm_append_comm, hl, List.append_assoc]
    exact Lowest.drop_big 5 _ _ big (by rw [List.length_ofFn]; decide) hge fun a ha => by
      rcases List.mem_append.mp ha with h | h
      · exact (List.mem_replicate.mp h).2
      · exact (List.mem_replicate.mp h).2
  rw [hn] at h
  rw [outer_trips]
  exact h

end

/-- The sum of the kept distances. -/
theorem pay27_apply (K : FVec Ideal S256x128 .f32) (b : Fin 256) (R : List EReal) (h : Holds K b R) :
    k0_pay27 (F := Ideal) K (ix2 b 0) = (R.map fun x => -x).sum := by
  have hl : ∀ k : Fin 128, reduces_S256x128_S256.lift (ix1 b) k = ix2 b k := by
    intro k
    funext d
    match d with
    | ⟨0, _⟩ => rfl
    | ⟨1, _⟩ => rfl
  have hi : ∀ k : Fin 128, iota .tc S256x128 32 [1] iota_S256x128_d1_w32 (ix2 b k) = BitVec.ofNat 32 k.val := fun k =>
    congrArg (BitVec.ofNat 32) (show 0 * 128 + k.val = k.val by omega)
  have hlt : ∀ k : Fin 128, (BitVec.ofNat 32 k.val).slt 5#32 = decide (k.val < 5) := by decide
  unfold k0_pay27
  rw [shapeCast_col]
  refine (Ideal.multiReduction_add_single _ _ _ _ _ _).trans ?_
  have hs : ∀ k : Fin 128, select (cmpi .slt (iota .tc S256x128 32 [1] iota_S256x128_d1_w32) (broadcast S256x128 5#32)) K
      (broadcast S256x128 (Scalar.ofBits (F := Ideal) .f32 0x00000000#32)) (reduces_S256x128_S256.lift (ix1 b) k)
      = if k.val < 5 then K (ix2 b k) else 0 := by
    intro k
    rw [hl]
    show Scalar.select (IntOp.cmpi .slt (iota .tc S256x128 32 [1] iota_S256x128_d1_w32 (ix2 b k)) 5#32) (K (ix2 b k)) (Ideal.ofBits .f32 0x00000000#32) = _
    rw [hi, Ideal.ofBits_zero_f32]
    simp only [Scalar.select, IntOp.cmpi, hlt]
    by_cases hk : k.val < 5
    · simp [hk]
    · simp [hk]
  refine (Finset.sum_congr rfl fun k _ => hs k).trans ?_
  rw [h.1, List.map_ofFn, List.sum_ofFn]
  refine (Fin.sum_univ_add (a := 5) (b := 123) fun k : Fin (5 + 123) => if k.val < 5 then K (ix2 b k) else 0).trans ?_
  rw [Finset.sum_eq_zero (s := (Finset.univ : Finset (Fin 123))) (fun k _ => if_neg (by show ¬(5 + k.val < 5); omega)), add_zero]
  refine Finset.sum_congr rfl fun k _ => ?_
  rw [if_pos (show (Fin.castAdd 123 k).val < 5 from k.isLt), Function.comp_apply, neg_neg]
  rfl

end Cert.Proof.KernelIdeal

end
-- ==== Proof.KernelIdeal.Network.lean ====
/- The network's predictions and the mean absolute difference, as the kernel computes them. -/
module

public import proofs.«01_k».proof.Proof.KernelIdeal.Nearest
public import Idealize.ShloMosaic.Lib.MatmulPlain

@[expose] public section

noncomputable section

namespace Cert.Proof.KernelIdeal

open Cert.KernelIdeal Cert.KernelIdeal.Gen
open Idealize.ShloMosaic Idealize.ShloMosaic.TcCoe Idealize.ShloMosaic.ValueIdx
open Cert.Proof.Consts Cert.Proof.Angle Cert.Proof.Loss

/-- A product accumulated from zero, read at an index. -/
theorem product_apply {M K N : ℕ} (x : FVec Ideal ⟨2, ![M, K]⟩ .f32) (y : FVec Ideal ⟨2, ![K, N]⟩ .f32) (r : Fin M) (c : Fin N) :
    FloatOps.matmul (DotDims.plain M K N) none x y (constant (F := Ideal) ⟨2, ![M, N]⟩ .f32 0x00000000#32) (ix2 r c)
      = ∑ k : Fin K, x (ix2 r k) * y (ix2 k c) := by
  rw [Ideal.matmul_plain_apply]
  show Ideal.ofBits .f32 0x00000000#32 + _ = _
  rw [Ideal.ofBits_zero_f32, zero_add]

/-- A row of biases laid under every row. -/
theorem bias_apply {N : ℕ} (hb : Shape.Broadcasts ⟨2, ![1, N]⟩ ⟨2, ![256, N]⟩) (x : FVec Ideal ⟨2, ![1, N]⟩ .f32) (b : Fin 256) (i : Fin N) :
    broadcastTo ⟨2, ![256, N]⟩ x hb (ix2 b i) = x (ix2 0 i) :=
  broadcastTo_apply _ _ _ (ix2 0 i) (by
    intro d
    match d with
    | ⟨0, _⟩ => rfl
    | ⟨1, _⟩ =>
      show i.val = if N = 1 then 0 else i.val
      split_ifs with h
      · have := i.isLt
        omega
      · rfl)

/-- The 84 components of a pose that lie in the group of component `i` are the four of its joint. -/
theorem group_sum (f : Fin 21 → Fin 4 → EReal) (i : Fin 84) :
    (∑ k : Fin 84, f ⟨k.val / 4, by omega⟩ ⟨k.val % 4, by omega⟩ * (if k.val / 4 = i.val / 4 then (1 : EReal) else 0))
      = ∑ a : Fin 4, f ⟨i.val / 4, by omega⟩ a := by
  simp only [mul_ite, mul_one, mul_zero]
  rw [← Finset.sum_filter]
  symm
  refine Finset.sum_bij (fun a _ => ⟨i.val / 4 * 4 + a.val, by have := i.isLt; have := a.isLt; omega⟩) ?_ ?_ ?_ ?_
  · intro a _
    simp only [Finset.mem_filter, Finset.mem_univ, true_and]
    have := a.isLt
    omega
  · intro a _ a' _ h
    have := Fin.mk.inj_iff.mp h
    exact Fin.ext (by omega)
  · intro k hk
    simp only [Finset.mem_filter, Finset.mem_univ, true_and] at hk
    exact ⟨⟨k.val % 4, by omega⟩, Finset.mem_univ _, Fin.ext (by show i.val / 4 * 4 + k.val % 4 = k.val; omega)⟩
  · intro a _
    have h := a.isLt
    refine congrArg₂ f (Fin.ext ?_) (Fin.ext ?_)
    · show i.val / 4 = (i.val / 4 * 4 + a.val) / 4
      omega
    · show a.val = (i.val / 4 * 4 + a.val) % 4
      omega

variable (P : Poses)

/-- The first product is the normalised pose's, as one row, with the first weights. -/
theorem pay25_apply (x : FVec Ideal S256x84 .f32) (g : FVec Ideal S84x84 .f32) (w : FVec Ideal S84x512 .f32)
    (hx : ∀ (b : Fin 256) (i : Fin 84), x (ix2 b i) = P b ⟨i.val / 4, by omega⟩ ⟨i.val % 4, by omega⟩)
    (hg : ∀ k i : Fin 84, g (ix2 k i) = if k.val / 4 = i.val / 4 then (1 : EReal) else 0) (b : Fin 256) (i : Fin 512) :
    k0_pay25 (F := Ideal) x g w (ix2 b i) = ∑ k, flat P b k * w (ix2 k i) := by
  unfold k0_pay25
  simp only [shapeCast_self]
  refine (product_apply (M := 256) (K := 84) (N := 512) _ _ b i).trans (Finset.sum_congr rfl fun k _ => ?_)
  refine congrArg (· * w (ix2 k i)) ?_
  show x (ix2 b k) * Ideal.rsqrt (max (FloatOps.matmul (DotDims.plain 256 84 84) none (mulf (F := Ideal) x x) g (constant (F := Ideal) ⟨2, ![256, 84]⟩ .f32 0x00000000#32) (ix2 b k))
    (Named.named (F := Ideal) (φ := .f32) κ "eps_sq" 0x179ABE15#32)) = _
  rw [product_apply, named_eps_sq]
  have hs : ∑ q : Fin 84, mulf (F := Ideal) x x (ix2 b q) * g (ix2 q k)
      = ∑ a, P b ⟨k.val / 4, by omega⟩ a * P b ⟨k.val / 4, by omega⟩ a := by
    refine Eq.trans (Finset.sum_congr rfl fun q _ => ?_) (group_sum (fun j a => P b j a * P b j a) k)
    show x (ix2 b q) * x (ix2 b q) * g (ix2 q k) = _
    rw [hx, hg]
  rw [hs, hx]
  exact unit_eq _ _ (sumsq_nonneg P b _)

/-- The network's predictions. -/
theorem pay26_apply (h0 : FVec Ideal S256x512 .f32) (b0 : FVec Ideal S1x512 .f32) (w1 : FVec Ideal S512x512 .f32) (b1 : FVec Ideal S1x512 .f32)
    (w2 : FVec Ideal S512x512 .f32) (b2 : FVec Ideal S1x512 .f32) (w3 : FVec Ideal S512x1 .f32) (b3 : FVec Ideal S1x1 .f32)
    (w0 : Fin 84 → Fin 512 → EReal) (hh : ∀ b i, h0 (ix2 b i) = ∑ k, flat P b k * w0 k i) (b : Fin 256) :
    k0_pay26 (F := Ideal) h0 b0 w1 b1 w2 b2 w3 b3 (ix2 b 0)
      = predict P w0 (fun i => b0 (ix2 0 i)) (fun k i => w1 (ix2 k i)) (fun i => b1 (ix2 0 i)) (fun k i => w2 (ix2 k i)) (fun i => b2 (ix2 0 i))
          (fun k i => w3 (ix2 k i)) (fun i => b3 (ix2 0 i)) b := by
  have lay : ∀ (y : FVec Ideal S256x512 .f32) (c : FVec Ideal S1x512 .f32) (z : Fin 256 → Fin 512 → EReal)
      (hz : ∀ b i, y (ix2 b i) + c (ix2 0 i) = z b i) (b : Fin 256) (i : Fin 512),
      maximumf (F := Ideal) (addf y (broadcastTo S256x512 c broadcasts_S1x512_S256x512)) (broadcast S256x512 (Scalar.ofBits (F := Ideal) .f32 0x00000000#32)) (ix2 b i)
        = max (z b i) 0 := by
    intro y c z hz b i
    show max (y (ix2 b i) + broadcastTo S256x512 c broadcasts_S1x512_S256x512 (ix2 b i)) (Ideal.ofBits .f32 0x00000000#32) = _
    rw [show broadcastTo S256x512 c broadcasts_S1x512_S256x512 (ix2 b i) = c (ix2 0 i) from bias_apply _ _ b i, Ideal.ofBits_zero_f32, hz]
  unfold k0_pay26
  simp only [shapeCast_self]
  have l0 := lay h0 b0 (affine (flat P) w0 fun i => b0 (ix2 0 i)) (fun b i => by rw [hh]; rfl)
  have next : ∀ (x : FVec Ideal S256x512 .f32) (z : Fin 256 → Fin 512 → EReal) (_ : ∀ b i, x (ix2 b i) = z b i) (w : FVec Ideal S512x512 .f32)
      (c : FVec Ideal S1x512 .f32) (b : Fin 256) (i : Fin 512),
      matmul (F := Ideal) dot_S256x512_S512x512_S256x512_1_0_0_1_n_n none x w (constant S256x512 .f32 0x00000000#32) (ix2 b i) + c (ix2 0 i)
        = affine z (fun k i => w (ix2 k i)) (fun i => c (ix2 0 i)) b i := by
    intro x z hx w c b i
    refine congrArg (· + c (ix2 0 i)) ((product_apply (M := 256) (K := 512) (N := 512) x w b i).trans ?_)
    exact Finset.sum_congr rfl fun k _ => by rw [hx]
  have l1 := lay _ b1 _ (next _ _ l0 w1 b1)
  have l2 := lay _ b2 _ (next _ _ l1 w2 b2)
  refine (addf_apply _ _ _).trans ?_
  refine congrArg₂ (· + ·) ((product_apply (M := 256) (K := 512) (N := 1) _ w3 b 0).trans ?_) (bias_apply (N := 1) _ b3 b 0)
  exact Finset.sum_congr rfl fun k _ => by rw [l2]; rfl

/-- The named fifth is a fifth. -/
theorem named_fifth : Named.named (F := Ideal) (φ := .f32) κ "fifth" 0x3E4CCCCD#32 = ((1 / 5 : ℝ) : EReal) :=
  IdealRules.named_const.ideal_named_scalar _ _ _ _ rfl

/-- The result: the mean absolute difference of the predictions and the sums of five distances times a fifth. -/
theorem pay1_apply (pred s : FVec Ideal S256x1 .f32) (p q : Fin 256 → EReal) (hp : ∀ b, pred (ix2 b 0) = p b) (hs : ∀ b, s (ix2 b 0) = q b) :
    k0_pay1 (F := Ideal) pred s (Named.named κ "fifth" 0x3E4CCCCD#32) (ix2 0 0) = loss p (fun b => q b * ((1 / 5 : ℝ) : EReal)) := by
  have hl : ∀ k : Fin 256, reduces_S256x1_S1.lift (ix1 0) k = ix2 k 0 := by
    intro k
    funext d
    match d with
    | ⟨0, _⟩ => rfl
    | ⟨1, _⟩ => rfl
  have key : ∀ k : Fin 256, max (pred (ix2 k 0) - s (ix2 k 0) * Named.named (F := Ideal) (φ := .f32) κ "fifth" 0x3E4CCCCD#32)
      (-(pred (ix2 k 0) - s (ix2 k 0) * Named.named (F := Ideal) (φ := .f32) κ "fifth" 0x3E4CCCCD#32))
        = max (p k - q k * ((1 / 5 : ℝ) : EReal)) (-(p k - q k * ((1 / 5 : ℝ) : EReal))) := fun k => by
    rw [hp, hs, named_fifth]
  unfold k0_pay1
  show shapeCast S1x1 (multiReduction (F := Ideal) .add [0] S1 (absf (subf pred (mulf s (broadcast S256x1 (Named.named (F := Ideal) (φ := .f32) κ "fifth" 0x3E4CCCCD#32))))) 0x00000000#32
    reduces_S256x1_S1 (.inl rfl) rfl) shapeCasts_S1_S1x1 (ix2 0 0) * Ideal.ofBits .f32 0x3B800000#32 = _
  rw [ofBits_inv256, shapeCast_apply _ _ _ (ix1 0) (by rw [Shape.rowMajor_val_one, Shape.rowMajor_val_two]; rfl)]
  refine congrArg (· * ((inv256 : ℝ) : EReal)) ((Ideal.multiReduction_add_single _ _ _ _ _ _).trans (Finset.sum_congr rfl fun k _ => ?_))
  rw [hl k]
  exact key k

end Cert.Proof.KernelIdeal

end
-- ==== Proof.KernelIdeal.Table.lean ====
/- The table of the constant matrix of the kernel's launch. -/
module

public import proofs.«01_k».proof.Proof.Gen.KernelIdeal.Skeleton

@[expose] public section

set_option maxRecDepth 100000

noncomputable section

namespace Cert.Proof.KernelIdeal

open Cert.KernelIdeal Cert.KernelIdeal.Gen
open Idealize.ShloMosaic

/-- An element of the table is one where row and column lie in the same group of four and zero elsewhere. -/
theorem table_eq (i : Fin 7056) : lit0 i = if i.val / 84 / 4 = i.val % 84 / 4 then 0x3F800000#32 else 0x00000000#32 := by
  revert i
  decide +kernel

end Cert.Proof.KernelIdeal

end
-- ==== Proof.KernelIdeal.Windows.lean ====
/- What the kernel's operands are when the launch begins, in terms of the arguments. -/
module

public import proofs.«01_k».proof.Proof.KernelIdeal.Run
public import proofs.«01_k».proof.Proof.KernelIdeal.Table
public import proofs.«01_k».proof.Proof.Math.Consts
public import Idealize.ShloMosaic.Lib.ValueIdx
public import Idealize.ShloMosaic.Lib.KernelVsHost
public import Idealize.ShloMosaic.Lib.Pipeline.Value
public import Idealize.ShloMosaic.Lib.StableHlo.Run

@[expose] public section

noncomputable section

namespace Cert.Proof.KernelIdeal

open Cert.KernelIdeal Cert.KernelIdeal.Gen
open Idealize.ShloMosaic Idealize.ShloMosaic.TcCoe Idealize.ShloMosaic.ValueIdx
open Cert.Proof.Consts

section

variable {F : FTy → Type} [FloatOps F] [Named F]
variable (m : (ℓ : Loc nD τ sig) → Buf (Elt F) ℓ) (c : Dev nD)

/-- The poses, joint first. -/
theorem V_poses : V m c main_call0_v0
    = transpose S21x256x4 [1, 0, 2] (m ((c : Thread nD τ).loc main_arg0)) transposes_S256x21x4_S21x256x4_1_0_2 := by
  show StableHlo.after hostOps0 _ (Proc.devRef .tc main_call0_v0) = _
  after_results
  rfl

/-- The poses as rows. -/
theorem V_rows : V m c main_call0_v1 = shapeCast S256x84 (m ((c : Thread nD τ).loc main_arg0)) shapeCasts_S256x21x4_S256x84 := by
  show StableHlo.after hostOps0 _ (Proc.devRef .tc main_call0_v1) = _
  after_results
  rfl

/-- The training poses, padded and cut into ten blocks of lanes. -/
theorem V_train : V m c main_call0_v5
    = transpose S10x21x4x1024 [2, 0, 1, 3] (shapeCast S21x4x10x1024
        (pad S21x4x10240 ![0, 0, 0] ![0, 0, 240] ![0, 0, 0]
          (transpose S21x4x10000 [1, 2, 0] (m ((c : Thread nD τ).loc main_arg1)) transposes_S10000x21x4_S21x4x10000_1_2_0)
          (sitofp (F := F) .f32 (constantI S_ 32 0#32)) pads_S21x4x10000_S21x4x10240_000_000_02400 h_S_)
        shapeCasts_S21x4x10240_S21x4x10x1024) transposes_S21x4x10x1024_S10x21x4x1024_2_0_1_3 := by
  show StableHlo.after hostOps0 _ (Proc.devRef .tc main_call0_v5) = _
  after_results
  rfl

/-- The bias of layer 0, laid out as one row. -/
theorem V_bias0 : V m c main_call0_v6 = shapeCast S1x512 (m ((c : Thread nD τ).loc main_arg3)) shapeCasts_S512_S1x512 := by
  show StableHlo.after hostOps0 _ (Proc.devRef .tc main_call0_v6) = _
  after_results
  rfl

/-- The bias of layer 1, laid out as one row. -/
theorem V_bias1 : V m c main_call0_v7 = shapeCast S1x512 (m ((c : Thread nD τ).loc main_arg5)) shapeCasts_S512_S1x512 := by
  show StableHlo.after hostOps0 _ (Proc.devRef .tc main_call0_v7) = _
  after_results
  rfl

/-- The bias of layer 2, laid out as one row. -/
theorem V_bias2 : V m c main_call0_v8 = shapeCast S1x512 (m ((c : Thread nD τ).loc main_arg7)) shapeCasts_S512_S1x512 := by
  show StableHlo.after hostOps0 _ (Proc.devRef .tc main_call0_v8) = _
  after_results
  rfl

/-- The bias of layer 3, laid out as one row. -/
theorem V_bias3 : V m c main_call0_v9 = shapeCast S1x1 (m ((c : Thread nD τ).loc main_arg9)) shapeCasts_S1_S1x1 := by
  show StableHlo.after hostOps0 _ (Proc.devRef .tc main_call0_v9) = _
  after_results
  rfl

/-- The constant matrix. -/
theorem V_groups : V m c main_call0_cst = fun i => FloatOps.ofBits .f32 (lit0 (S84x84.rowMajor i)) := by
  show StableHlo.after hostOps0 _ (Proc.devRef .tc main_call0_cst) = _
  after_results
  rfl

/-! ## Every window is its whole array -/

/-- Every window's one block begins at the array's first element. -/
theorem index_zero : ∀ (w : Fin cfg0.W) (t : Fin cfg0.N) (a : Fin (cfg0.win w).shape.rank), (cfg0.win w).index t a = 0 := by
  decide +kernel

/-- An element of a window's block sits in the array at its own coordinates. -/
theorem block_emb (w : Fin cfg0.W) (t : Fin cfg0.N) (y : ((cfg0.win w).xblock (cfg0.grid.coords t)).Idx) (a : Fin (cfg0.win w).shape.rank) :
    (((cfg0.win w).rect t).emb y a : ℕ) = y a :=
  (cfg0.win w).rect_emb_val_of_index_zero t a (index_zero w t a) y

/-- The block of operand 0 is the whole array. -/
theorem iblk_0 (t : Fin cfg0.N) : iblk m c 0 t = V m c main_call0_v0 :=
  funext fun y => congrArg (V m c main_call0_v0) (funext fun a => Fin.ext (block_emb 0 t y a))
/-- The block of operand 1 is the whole array. -/
theorem iblk_1 (t : Fin cfg0.N) : iblk m c 1 t = V m c main_call0_v1 :=
  funext fun y => congrArg (V m c main_call0_v1) (funext fun a => Fin.ext (block_emb 1 t y a))
/-- The block of operand 2 is the whole array. -/
theorem iblk_2 (t : Fin cfg0.N) : iblk m c 2 t = V m c main_call0_v5 :=
  funext fun y => congrArg (V m c main_call0_v5) (funext fun a => Fin.ext (block_emb 2 t y a))
/-- The block of operand 3 is the whole array. -/
theorem iblk_3 (t : Fin cfg0.N) : iblk m c 3 t = V m c main_arg2 :=
  funext fun y => congrArg (V m c main_arg2) (funext fun a => Fin.ext (block_emb 3 t y a))
/-- The block of operand 4 is the whole array. -/
theorem iblk_4 (t : Fin cfg0.N) : iblk m c 4 t = V m c main_call0_v6 :=
  funext fun y => congrArg (V m c main_call0_v6) (funext fun a => Fin.ext (block_emb 4 t y a))
/-- The block of operand 5 is the whole array. -/
theorem iblk_5 (t : Fin cfg0.N) : iblk m c 5 t = V m c main_arg4 :=
  funext fun y => congrArg (V m c main_arg4) (funext fun a => Fin.ext (block_emb 5 t y a))
/-- The block of operand 6 is the whole array. -/
theorem iblk_6 (t : Fin cfg0.N) : iblk m c 6 t = V m c main_call0_v7 :=
  funext fun y => congrArg (V m c main_call0_v7) (funext fun a => Fin.ext (block_emb 6 t y a))
/-- The block of operand 7 is the whole array. -/
theorem iblk_7 (t : Fin cfg0.N) : iblk m c 7 t = V m c main_arg6 :=
  funext fun y => congrArg (V m c main_arg6) (funext fun a => Fin.ext (block_emb 7 t y a))
/-- The block of operand 8 is the whole array. -/
theorem iblk_8 (t : Fin cfg0.N) : iblk m c 8 t = V m c main_call0_v8 :=
  funext fun y => congrArg (V m c main_call0_v8) (funext fun a => Fin.ext (block_emb 8 t y a))
/-- The block of operand 9 is the whole array. -/
theorem iblk_9 (t : Fin cfg0.N) : iblk m c 9 t = V m c main_arg8 :=
  funext fun y => congrArg (V m c main_arg8) (funext fun a => Fin.ext (block_emb 9 t y a))
/-- The block of operand 10 is the whole array. -/
theorem iblk_10 (t : Fin cfg0.N) : iblk m c 10 t = V m c main_call0_v9 :=
  funext fun y => congrArg (V m c main_call0_v9) (funext fun a => Fin.ext (block_emb 10 t y a))
/-- The block of operand 11 is the whole array. -/
theorem iblk_11 (t : Fin cfg0.N) : iblk m c 11 t = V m c main_call0_cst :=
  funext fun y => congrArg (V m c main_call0_cst) (funext fun a => Fin.ext (block_emb 11 t y a))

end

/-- The constant matrix read over the extended reals. -/
theorem groups_apply (k i : Fin 84) :
    FloatOps.ofBits (F := Ideal) .f32 (lit0 (S84x84.rowMajor (ix2 k i))) = if k.val / 4 = i.val / 4 then (1 : EReal) else 0 := by
  have h : (S84x84.rowMajor (ix2 k i)).val = k.val * 84 + i.val := by
    rw [Shape.rowMajor_val_two]
    rfl
  have h1 : (k.val * 84 + i.val) / 84 = k.val := by have := i.isLt; omega
  have h2 : (k.val * 84 + i.val) % 84 = i.val := by have := i.isLt; omega
  refine (congrArg (FloatOps.ofBits (F := Ideal) .f32) (table_eq _)).trans ?_
  rw [h, h1, h2]
  split_ifs
  · exact ofBits_one
  · exact Ideal.ofBits_zero_f32

/-! ## The operands at their coordinates -/

section

variable (m : (ℓ : Loc nD τ sig) → Buf (Elt Ideal) ℓ) (c : Dev nD) (t : Fin cfg0.N)

/-- The poses, joint first. -/
theorem iblk_0_apply (j : Fin 21) (b : Fin 256) (a : Fin 4) :
    (iblk m c 0 t : FVec Ideal S21x256x4 .f32) (ix3 j b a) = (m ((c : Thread nD τ).loc main_arg0) : FVec Ideal S256x21x4 .f32) (ix3 b j a) := by
  rw [iblk_0, V_poses]
  exact transpose_apply _ _ _ _ _ (by intro d; match d with | ⟨0, _⟩ => rfl | ⟨1, _⟩ => rfl | ⟨2, _⟩ => rfl)

/-- The poses, one row of 84 numbers each. -/
theorem iblk_1_apply (b : Fin 256) (i : Fin 84) :
    (iblk m c 1 t : FVec Ideal S256x84 .f32) (ix2 b i)
      = (m ((c : Thread nD τ).loc main_arg0) : FVec Ideal S256x21x4 .f32) (ix3 b ⟨i.val / 4, by omega⟩ ⟨i.val % 4, by omega⟩) := by
  rw [iblk_1, V_rows]
  exact shapeCast_apply (s := S256x21x4) (t := S256x84) _ _ _ _ (by
    rw [Shape.rowMajor_val_two, Shape.rowMajor_val_three]
    show (b.val * 21 + i.val / 4) * 4 + i.val % 4 = b.val * 84 + i.val
    omega)

/-- The training poses in ten blocks of 1024, inside the 10000 given ones. -/
theorem iblk_2_apply (k : Fin 10) (j : Fin 21) (a : Fin 4) (l : Fin 1024) (h : 1024 * k.val + l.val < 10000) :
    (iblk m c 2 t : FVec Ideal S10x21x4x1024 .f32) (ix4 k j a l)
      = (m ((c : Thread nD τ).loc main_arg1) : FVec Ideal S10000x21x4 .f32) (ix3 ⟨1024 * k.val + l.val, h⟩ j a) := by
  rw [iblk_2, V_train]
  refine (transpose_apply _ _ _ _ (ix4 j a k l) (by intro d; match d with | ⟨0, _⟩ => rfl | ⟨1, _⟩ => rfl | ⟨2, _⟩ => rfl | ⟨3, _⟩ => rfl)).trans ?_
  refine (shapeCast_apply _ _ _ (ix3 j a ⟨1024 * k.val + l.val, by omega⟩) (by
    rw [Shape.rowMajor_val_three, Shape.rowMajor_val_four]
    show (j.val * 4 + a.val) * 10240 + (1024 * k.val + l.val) = ((j.val * 4 + a.val) * 10 + k.val) * 1024 + l.val
    omega)).trans ?_
  refine (pad_apply_of_inside _ _ _ _ _ _ _ _ (ix3 j a ⟨1024 * k.val + l.val, h⟩) (by
    intro d
    match d with
    | ⟨0, _⟩ => show j.val = 0 + j.val * 1; omega
    | ⟨1, _⟩ => show a.val = 0 + a.val * 1; omega
    | ⟨2, _⟩ => show 1024 * k.val + l.val = 0 + (1024 * k.val + l.val) * 1; omega)).trans ?_
  exact transpose_apply _ _ _ _ _ (by intro d; match d with | ⟨0, _⟩ => rfl | ⟨1, _⟩ => rfl | ⟨2, _⟩ => rfl)

/-- A vector laid out as one row. -/
theorem row_apply {n : ℕ} (x : FVec Ideal ⟨1, ![n]⟩ .f32) (h : Shape.ShapeCasts ⟨1, ![n]⟩ ⟨2, ![1, n]⟩) (i : Fin n) :
    shapeCast ⟨2, ![1, n]⟩ x h (ix2 0 i) = x (ix1 i) :=
  shapeCast_apply _ _ _ _ (by
    rw [Shape.rowMajor_val_one, Shape.rowMajor_val_two]
    show i.val = 0 * n + i.val
    omega)

/-- The bias of layer 0 at one coordinate. -/
theorem iblk_4_apply (i : Fin 512) :
    (iblk m c 4 t : FVec Ideal S1x512 .f32) (ix2 0 i) = (m ((c : Thread nD τ).loc main_arg3) : FVec Ideal S512 .f32) (ix1 i) := by
  rw [iblk_4, V_bias0]
  exact row_apply _ _ i

/-- The bias of layer 1 at one coordinate. -/
theorem iblk_6_apply (i : Fin 512) :
    (iblk m c 6 t : FVec Ideal S1x512 .f32) (ix2 0 i) = (m ((c : Thread nD τ).loc main_arg5) : FVec Ideal S512 .f32) (ix1 i) := by
  rw [iblk_6, V_bias1]
  exact row_apply _ _ i

/-- The bias of layer 2 at one coordinate. -/
theorem iblk_8_apply (i : Fin 512) :
    (iblk m c 8 t : FVec Ideal S1x512 .f32) (ix2 0 i) = (m ((c : Thread nD τ).loc main_arg7) : FVec Ideal S512 .f32) (ix1 i) := by
  rw [iblk_8, V_bias2]
  exact row_apply _ _ i

/-- The bias of layer 3 at one coordinate. -/
theorem iblk_10_apply (i : Fin 1) :
    (iblk m c 10 t : FVec Ideal S1x1 .f32) (ix2 0 i) = (m ((c : Thread nD τ).loc main_arg9) : FVec Ideal S1 .f32) (ix1 i) := by
  rw [iblk_10, V_bias3]
  exact row_apply (n := 1) _ _ i

/-- The 0/1 matrix that adds the four coordinates of a joint. -/
theorem iblk_11_apply (k i : Fin 84) :
    (iblk m c 11 t : FVec Ideal S84x84 .f32) (ix2 k i) = if k.val / 4 = i.val / 4 then (1 : EReal) else 0 := by
  rw [iblk_11, V_groups]
  exact groups_apply k i

end

end Cert.Proof.KernelIdeal

end
-- ==== Proof.KernelIdeal.Value.lean ====
/- The kernel's result: the loss of the arguments. -/
module

public import proofs.«01_k».proof.Proof.KernelIdeal.Network
public import proofs.«01_k».proof.Proof.KernelIdeal.Windows

@[expose] public section

noncomputable section

namespace Cert.Proof.KernelIdeal

open Cert.KernelIdeal Cert.KernelIdeal.Gen
open Idealize.ShloMosaic Idealize.ShloMosaic.TcCoe Idealize.ShloMosaic.ValueIdx Idealize.SL.Sem
open Cert.Proof.Loss

/-- What the body stores, from the contents of its operands: the loss. -/
theorem outOf_apply (arg0 : Memref sig .tc .vmem S21x256x4 .f32) (arg1 : Memref sig .tc .vmem S256x84 .f32) (arg2 : Memref sig .tc .vmem S10x21x4x1024 .f32) (arg3 : Memref sig .tc .vmem S84x512 .f32) (arg4 : Memref sig .tc .vmem S1x512 .f32) (arg5 : Memref sig .tc .vmem S512x512 .f32)
  (arg6 : Memref sig .tc .vmem S1x512 .f32) (arg7 : Memref sig .tc .vmem S512x512 .f32) (arg8 : Memref sig .tc .vmem S1x512 .f32) (arg9 : Memref sig .tc .vmem S512x1 .f32) (arg10 : Memref sig .tc .vmem S1x1 .f32) (arg11 : Memref sig .tc .vmem S84x84 .f32)
  (arg13 : Memref sig .tc .vmem S21x256x4 .f32) (arg14 : Memref sig .tc .vmem S256x128 .f32)
  (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty)
    (P : Poses) (T : Train) (hP : ∀ j b a, (arg0.view.read (Elt Ideal) X0 : FVec Ideal S21x256x4 .f32) (ix3 j b a) = P b j a)
    (hx : ∀ (b : Fin 256) (i : Fin 84), (arg1.view.read (Elt Ideal) X1 : FVec Ideal S256x84 .f32) (ix2 b i) = P b ⟨i.val / 4, by omega⟩ ⟨i.val % 4, by omega⟩)
    (hT : ∀ (k : Fin 10) (j : Fin 21) (a : Fin 4) (l : Fin 1024) (h : 1024 * k.val + l.val < 10000),
      (arg2.view.read (Elt Ideal) X2 : FVec Ideal S10x21x4x1024 .f32) (ix4 k j a l) = T ⟨1024 * k.val + l.val, h⟩ j a)
    (hg : ∀ k i : Fin 84, (arg11.view.read (Elt Ideal) X11 : FVec Ideal S84x84 .f32) (ix2 k i) = if k.val / 4 = i.val / 4 then (1 : EReal) else 0) :
    outOf (F := Ideal) arg0 arg1 arg2 arg3 arg4 arg5 arg6 arg7 arg8 arg9 arg10 arg11 arg13 arg14 X0 X1 X2 X3 X4 X5 X6 X7 X8 X9 X10 X11 (ix2 0 0)
      = loss (predict P (fun k i => (arg3.view.read (Elt Ideal) X3 : FVec Ideal S84x512 .f32) (ix2 k i)) (fun i => (arg4.view.read (Elt Ideal) X4 : FVec Ideal S1x512 .f32) (ix2 0 i)) (fun k i => (arg5.view.read (Elt Ideal) X5 : FVec Ideal S512x512 .f32) (ix2 k i)) (fun i => (arg6.view.read (Elt Ideal) X6 : FVec Ideal S1x512 .f32) (ix2 0 i)) (fun k i => (arg7.view.read (Elt Ideal) X7 : FVec Ideal S512x512 .f32) (ix2 k i)) (fun i => (arg8.view.read (Elt Ideal) X8 : FVec Ideal S1x512 .f32) (ix2 0 i)) (fun k i => (arg9.view.read (Elt Ideal) X9 : FVec Ideal S512x1 .f32) (ix2 k i)) (fun i => (arg10.view.read (Elt Ideal) X10 : FVec Ideal S1x1 .f32) (ix2 0 i))) (meanDist P T) := by
  unfold outOf
  refine pay1_apply _ _ _ (fun b => ((nearest P T b).map fun x => -x).sum) (fun b => ?_) (fun b => ?_)
  · unfold predOf
    rw [View.readAt_full, View.readAt_full, View.readAt_full, View.readAt_full, View.readAt_full, View.readAt_full, View.readAt_full, View.readAt_full, View.readAt_full, View.readAt_full]
    exact pay26_apply P _ _ _ _ _ _ _ _ _ (fun b i => pay25_apply P _ _ _ hx hg b i) b
  · rw [View.readAt_full]
    refine pay27_apply _ b _ (kept_nearest arg2 arg13 X2 _ P T (fun j b a => ?_) hT arg14 b)
    unfold posesOf
    rw [View.read_writes_full, View.readAt_full]
    exact pay22_apply _ P hP j b a

section

variable (m : (ℓ : Loc nD τ sig) → Buf (Elt Ideal) ℓ) (c : Dev nD)

/-- The loss of the arguments in memory. -/
def lossOf : EReal :=
  loss (predict (fun b j a => (m ((c : Thread nD τ).loc main_arg0) : FVec Ideal S256x21x4 .f32) (ix3 b j a))
      (fun k i => (m ((c : Thread nD τ).loc main_arg2) : FVec Ideal S84x512 .f32) (ix2 k i)) (fun i => (m ((c : Thread nD τ).loc main_arg3) : FVec Ideal S512 .f32) (ix1 i))
      (fun k i => (m ((c : Thread nD τ).loc main_arg4) : FVec Ideal S512x512 .f32) (ix2 k i)) (fun i => (m ((c : Thread nD τ).loc main_arg5) : FVec Ideal S512 .f32) (ix1 i))
      (fun k i => (m ((c : Thread nD τ).loc main_arg6) : FVec Ideal S512x512 .f32) (ix2 k i)) (fun i => (m ((c : Thread nD τ).loc main_arg7) : FVec Ideal S512 .f32) (ix1 i))
      (fun k i => (m ((c : Thread nD τ).loc main_arg8) : FVec Ideal S512x1 .f32) (ix2 k i)) (fun i => (m ((c : Thread nD τ).loc main_arg9) : FVec Ideal S1 .f32) (ix1 i)))
    (meanDist (fun b j a => (m ((c : Thread nD τ).loc main_arg0) : FVec Ideal S256x21x4 .f32) (ix3 b j a))
      (fun n j a => (m ((c : Thread nD τ).loc main_arg1) : FVec Ideal S10000x21x4 .f32) (ix3 n j a)))

/-- What the body stores at its one point is the loss of the arguments. -/
theorem outVal_apply (t : Fin cfg0.N) : outVal m c t (ix2 0 0) = lossOf m c := by
  have h := outOf_apply (Memref.whole cc0_stg0_0) (Memref.whole cc0_stg1_0) (Memref.whole cc0_stg2_0) (Memref.whole cc0_stg3_0) (Memref.whole cc0_stg4_0) (Memref.whole cc0_stg5_0) (Memref.whole cc0_stg6_0) (Memref.whole cc0_stg7_0) (Memref.whole cc0_stg8_0) (Memref.whole cc0_stg9_0) (Memref.whole cc0_stg10_0) (Memref.whole cc0_stg11_0) (Memref.whole cc0_scratch0) (Memref.whole cc0_scratch1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (fun b j a => (m ((c : Thread nD τ).loc main_arg0) : FVec Ideal S256x21x4 .f32) (ix3 b j a)) (fun n j a => (m ((c : Thread nD τ).loc main_arg1) : FVec Ideal S10000x21x4 .f32) (ix3 n j a))
    (fun j b a => iblk_0_apply m c t j b a) (fun b i => iblk_1_apply m c t b i) (fun k j a l h => iblk_2_apply m c t k j a l h) (fun k i => iblk_11_apply m c t k i)
  refine h.trans ?_
  unfold lossOf
  refine congrArg (fun p => loss p _) ?_
  have e3 : (fun (k : Fin 84) (i : Fin 512) => (iblk m c 3 t : FVec Ideal S84x512 .f32) (ix2 k i)) = fun k i => (m ((c : Thread nD τ).loc main_arg2) : FVec Ideal S84x512 .f32) (ix2 k i) := by
    rw [iblk_3, V_main_arg2]
  have e5 : (fun (k : Fin 512) (i : Fin 512) => (iblk m c 5 t : FVec Ideal S512x512 .f32) (ix2 k i)) = fun k i => (m ((c : Thread nD τ).loc main_arg4) : FVec Ideal S512x512 .f32) (ix2 k i) := by
    rw [iblk_5, V_main_arg4]
  have e7 : (fun (k : Fin 512) (i : Fin 512) => (iblk m c 7 t : FVec Ideal S512x512 .f32) (ix2 k i)) = fun k i => (m ((c : Thread nD τ).loc main_arg6) : FVec Ideal S512x512 .f32) (ix2 k i) := by
    rw [iblk_7, V_main_arg6]
  have e9 : (fun (k : Fin 512) (i : Fin 1) => (iblk m c 9 t : FVec Ideal S512x1 .f32) (ix2 k i)) = fun k i => (m ((c : Thread nD τ).loc main_arg8) : FVec Ideal S512x1 .f32) (ix2 k i) := by
    rw [iblk_9, V_main_arg8]
  have e4 := funext fun i => iblk_4_apply m c t i
  have e6 := funext fun i => iblk_6_apply m c t i
  have e8 := funext fun i => iblk_8_apply m c t i
  have e10 := funext fun i => iblk_10_apply m c t i
  exact (congrArg (fun f => predict _ f _ _ _ _ _ _ _) e3).trans <| (congrArg (fun f => predict _ _ f _ _ _ _ _ _) e4).trans <|
    (congrArg (fun f => predict _ _ _ f _ _ _ _ _) e5).trans <| (congrArg (fun f => predict _ _ _ _ f _ _ _ _) e6).trans <|
    (congrArg (fun f => predict _ _ _ _ _ f _ _ _) e7).trans <| (congrArg (fun f => predict _ _ _ _ _ _ f _ _) e8).trans <|
    (congrArg (fun f => predict _ _ _ _ _ _ _ f _) e9).trans <| congrArg (fun f => predict _ _ _ _ _ _ _ _ f) e10

end

end Cert.Proof.KernelIdeal

end
-- ==== Proof.KernelIdeal.Result.lean ====
/- The kernel's run with its result: the loss of the arguments, the arguments unchanged. -/
module

public import proofs.«01_k».proof.Proof.KernelIdeal.Value
public import Idealize.ShloMosaic.Lib.Pipeline.ValueKit.Geometry

@[expose] public section

noncomputable section

namespace Cert.Proof.KernelIdeal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The result's array after the run is what the body stored at its one point. -/
theorem result_array (c : Dev nD) : (dats m 0 c).arrAt 12 cfg0.N = outVal m c t0_0 :=
  Pipeline.Dat.arrAt_eq_of_after_last (dats m 0 c) 12 t0_0 (by decide +kernel) _ fun j => by
    rw [after_12]
    rfl

/-- The launch's arrays are pairwise distinct buffers. -/
theorem arrays_distinct : Function.Injective (Pipeline.arrRef spec0) := by
  intro a b
  revert a b
  decide +kernel

/-- The scalar read from that array after the region is the loss. -/
theorem result_scalar (c : Dev nD) :
    Pipeline.afterTail₀ cfgs (dats m) 0 (V0 m) [hostOps1] c main_v0 = fun _ => lossOf m c := by
  unfold Pipeline.afterTail₀
  show StableHlo.after hostOps1 _ (Proc.devRef .tc main_v0) = _
  after_results
  funext i
  show shapeCast S_ (Pipeline.withArrays spec0 c (V0 m c) (fun w => (dats m 0 c).arrAt w cfg0.N) (Proc.devRef .tc main_call0_v10) : FVec Ideal S1x1 .f32)
    shapeCasts_S1x1_S_ i = _
  refine (shapeCast_apply (s := S1x1) (t := S_) _ _ i (ix2 0 0) ?_).trans ?_
  · have h1 : (S_.rowMajor i).val < 1 := (S_.rowMajor i).isLt
    have h2 : (S1x1.rowMajor (ix2 0 0)).val < 1 := (S1x1.rowMajor (ix2 0 0)).isLt
    omega
  refine (congrFun (Pipeline.withArrays_arr spec0 arrays_distinct c (V0 m c) (fun w => (dats m 0 c).arrAt w cfg0.N) 12) (ix2 0 0)).trans ?_
  exact (congrFun (result_array m c) (ix2 0 0)).trans (outVal_apply m c t0_0)

variable (ρ : Dev nD → PrngReg)

/-- Every run of the kernel ends with the loss in its result and its arguments as launched. -/
theorem run : θ_run defs (onTc (τ := τ) (main (F := Ideal))) ⟨m, fun _ => 0, ρ⟩ (fun r => ∀ c : Dev nD,
      r.2.mem ((c.tc : Thread nD τ).loc main_v0) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      ⟨((h.1 c).2 main_v0 (Pipeline.mem_restRefs_of main_v0 (by decide) (by decide))).trans (result_scalar m c), h.2.1 c⟩)
    (θ_run_and (run_main m ρ) (frame m ρ))

end Cert.Proof.KernelIdeal

end
-- ==== Proof.ReferenceIdeal.Distance.lean ====
/- The reference's distances read at an index. -/
module

public import proofs.«01_k».proof.Proof.Gen.ReferenceIdeal.Read
public import proofs.«01_k».proof.Proof.Math.Loss

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.ValueIdx
open Cert.Proof.Consts Cert.Proof.Angle Cert.Proof.Loss

variable (x0 : (⟨S256x21x4, .f32⟩ : BufTy).Contents (Elt Ideal)) (x1 : (⟨S10000x21x4, .f32⟩ : BufTy).Contents (Elt Ideal))

/-- The poses by their coordinates. -/
abbrev poses : Poses := fun b j a => x0 (ix3 b j a)
/-- The training poses by their coordinates. -/
abbrev train : Train := fun n j a => x1 (ix3 n j a)

/-- The normalised poses. -/
theorem unit_apply (b : Fin 256) (j : Fin 21) (a : Fin 4) :
    val_main_v7 (F := Ideal) x0 (ix3 b j a) = unit (poses x0) b j a := by
  rw [val_main_v7_apply, val_main_v6_apply, show idx_main_v6 (ix3 b j a) = ix3 b j 0 from eq_ix3 _, val_main_v5_apply, val_main_v3_apply,
    val_main_v4_apply, val_main_cst_0_apply, val_main_v2_apply, show idx_main_v2 (ix3 b j 0) = ix2 b j from eq_ix2 _, val_main_v1_apply,
    val_main_cst_apply]
  simp only [val_main_v0_apply, Ideal.hostDivf_def, Ideal.hostUnary_sqrt_def, Ideal.maximumf_def, Ideal.mulf_def, Ideal.ofBits_def,
    Ideal.ofBits_zero_f32, ofBits_eps, zero_add]
  unfold unit
  have h : ∀ k : Fin 4, idx_main_v1 (ix2 b j) k = ix3 b j k := fun k => eq_ix3 _
  simp only [h]

/-- The scalar products. -/
theorem dot_apply (b : Fin 256) (n : Fin 10000) (j : Fin 21) :
    val_main_v9 (F := Ideal) x0 x1 (ix3 b n j) = dot (poses x0) (train x1) b n j := by
  rw [val_main_v9_apply, show idx_main_v9 (ix3 b n j) = ix3 j n b from eq_ix3 _, val_main_v8_apply]
  have hl : ∀ k : Fin 4, lidx_main_v8 (ix3 j n b) k = ix3 n j k := fun k => eq_ix3 _
  have hr : ∀ k : Fin 4, ridx_main_v8 (ix3 j n b) k = ix3 b j k := fun k => eq_ix3 _
  simp only [hl, hr, unit_apply]
  rfl

/-- The clipped scalar products. -/
theorem clip_apply (b : Fin 256) (n : Fin 10000) (j : Fin 21) :
    val_main_v10 (F := Ideal) x0 x1 (ix3 b n j) = ((clip (dot (poses x0) (train x1) b n j) : ℝ) : EReal) := by
  rw [coe_clip, ← dot_apply]
  simp only [val_main_v10_apply, val_main_call0_v4_apply, val_main_call0_v3_apply, val_main_cst_2_apply, val_main_call0_v2_apply,
    val_main_call0_v1_apply, val_main_call0_v0_apply, val_main_cst_1_apply, Ideal.minimumf_def, Ideal.maximumf_def,
    Ideal.ofBits_def, ofBits_lo, ofBits_hi]

/-- The angles. -/
theorem arccos_apply (b : Fin 256) (n : Fin 10000) (j : Fin 21) :
    val_main_v61 (F := Ideal) x0 x1 (ix3 b n j) = ((arccos (clip (dot (poses x0) (train x1) b n j)) : ℝ) : EReal) := by
  have hc := clip_apply x0 x1 b n j
  have hb := abs_clip (dot (poses x0) (train x1) b n j)
  generalize clip (dot (poses x0) (train x1) b n j) = r at hc hb
  have h11 : val_main_v11 (F := Ideal) x0 x1 (ix3 b n j) = ((|r| : ℝ) : EReal) := by
    rw [val_main_v11_apply, hc, Ideal.hostAbsf_def, Ideal.absf_def, abs_coe]
  have h52 : val_main_v52 (F := Ideal) x0 x1 (ix3 b n j) = ((series |r| : ℝ) : EReal) := by
    rw [← series_powers]
    simp only [val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_cst_3_apply, val_main_cst_4_apply, val_main_cst_5_apply, val_main_cst_6_apply, val_main_cst_7_apply, val_main_cst_8_apply, val_main_cst_9_apply, val_main_cst_10_apply, val_main_cst_11_apply, val_main_cst_12_apply, h11, Ideal.addf_def, Ideal.mulf_def, Ideal.ofBits_def, Ideal.ofBits_zero_f32,
      ofBits_one, ofBits_a0, ofBits_a1, ofBits_a2, ofBits_a3, ofBits_a4, ofBits_a5, ofBits_a6, ofBits_a7]
  have h56 : val_main_v56 (F := Ideal) x0 x1 (ix3 b n j) = ((near r : ℝ) : EReal) := by
    rw [val_main_v56_apply, val_main_v55_apply, val_main_v54_apply, h52, h11, val_main_v53_apply, val_main_cst_13_apply]
    simp only [Ideal.mulf_def, Ideal.subf_def, Ideal.hostUnary_sqrt_def, Ideal.ofBits_def, ofBits_one]
    rw [sqrt_coe r hb, ← EReal.coe_mul]
    rfl
  rw [val_main_v61_apply, val_main_v60_apply, val_main_v58_apply, hc, h56, val_main_v59_apply, val_main_v57_apply,
    val_main_cst_14_apply, val_main_cst_15_apply]
  simp only [Ideal.subf_def, Ideal.ofBits_def, Ideal.ofBits_zero_f32, ofBits_pi, Ideal.cmpf_def, ← EReal.coe_sub]
  by_cases h : 0 ≤ r
  · simp [Scalar.select, Ideal.cmp, arccos, h]
  · simp [Scalar.select, Ideal.cmp, arccos, h]

/-- The distances, negated. -/
theorem dist_apply (b : Fin 256) (n : Fin 10000) :
    val_main_v65 (F := Ideal) x0 x1 (ix2 b n) = -((dist (poses x0) (train x1) b n : ℝ) : EReal) := by
  have h : ∀ j : Fin 21, idx_main_v62 (ix2 b n) j = ix3 b n j := fun j => eq_ix3 _
  rw [val_main_v65_apply, val_main_v64_apply, val_main_v63_apply, val_main_cst_17_apply, val_main_v62_apply, val_main_cst_16_apply]
  simp only [h, arccos_apply, Ideal.hostNegf_def, Ideal.negf_def, Ideal.hostDivf_def, Ideal.ofBits_def, Ideal.ofBits_zero_f32, ofBits_two, zero_add]
  rw [← coe_sum, Ideal.div_coe (by unfold two; norm_num), ← EReal.coe_mul]
  unfold Loss.dist two
  rw [mul_one_div]

end Cert.Proof.ReferenceIdeal

end
-- ==== Proof.ReferenceIdeal.TopK.lean ====
/- The reference's five largest negated distances, and their mean. -/
module

public import proofs.«01_k».proof.Proof.ReferenceIdeal.Distance
public import Idealize.ShloMosaic.Lib.SortFacts

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.ValueIdx Idealize.ShloMosaic.SortNet
open Cert.Proof.Consts Cert.Proof.Angle Cert.Proof.Loss

/-- "Larger first" as the sort's comparison. -/
abbrev larger {n : ℕ} (f : Fin n → EReal) (k k' : Fin n) : Bool := Ideal.cmp .ogt (f k) (f k') == 1#1

/-- The order by which the reference sorts. -/
theorem larger_iff {n : ℕ} (f : Fin n → EReal) (k k' : Fin n) : larger f k k' = decide (f k' < f k) := by
  unfold larger Ideal.cmp
  by_cases h : f k' < f k <;> simp [h]

/-- The entries in the order the host sorts them are the entries sorted descending. -/
theorem ofFn_sortedFrom {n : ℕ} (f : Fin n → EReal) :
    List.ofFn (fun i => f (sortedFrom (larger f) i)) = (List.ofFn f).insertionSort (· ≥ ·) := by
  have hbij : Function.Bijective (sortedFrom (larger f)) := ⟨sortedFrom_injective _, sortedFrom_surjective _⟩
  have hp : (List.ofFn fun i => f (sortedFrom (larger f) i)).Perm (List.ofFn f) := by
    rw [← Multiset.coe_eq_coe, ← Fin.univ_val_map, ← Fin.univ_val_map]
    have := Multiset.map_univ_val_equiv (Equiv.ofBijective _ hbij)
    conv_rhs => rw [← this, Multiset.map_map]
    rfl
  refine eq_of_perm_of_descending (hp.trans (List.perm_insertionSort (· ≥ ·) _).symm) ?_ (List.pairwise_insertionSort (· ≥ ·) _)
  rw [List.pairwise_ofFn]
  intro i j hij
  have h := sortedFrom_noInversion (larger f) (larger f)
    (fun a b h => by rw [larger_iff, decide_eq_true_eq] at h; rw [larger_iff, decide_eq_false_iff_not]; exact not_lt.mpr h.le)
    (fun a b h => h)
    (fun a b c h h' => by
      rw [larger_iff, decide_eq_false_iff_not, not_lt] at h h' ⊢
      exact h.trans h') i j hij
  rw [larger_iff, decide_eq_false_iff_not, not_lt] at h
  exact h

/-- The first `k` of them are the `k` largest. -/
theorem ofFn_take {n : ℕ} (k : ℕ) (hk : k ≤ n) (f : Fin n → EReal) :
    List.ofFn (fun i : Fin k => f (sortedFrom (larger f) (i.castLE hk))) = topList k (List.ofFn f) := by
  unfold topList
  rw [← ofFn_sortedFrom]
  refine List.ext_getElem (by simpa using hk) fun i h1 h2 => ?_
  simp

variable (x0 : (⟨S256x21x4, .f32⟩ : BufTy).Contents (Elt Ideal)) (x1 : (⟨S10000x21x4, .f32⟩ : BufTy).Contents (Elt Ideal))

/-- The values of the top-k are the negated distances in the sort's order. -/
theorem values_apply (b : Fin 256) (k : Fin 5) :
    val_main_values (F := Ideal) x0 x1 (ix2 b k)
      = (fun n : Fin 10000 => val_main_v65 (F := Ideal) x0 x1 (ix2 b n))
          (sortedFrom (larger fun n : Fin 10000 => val_main_v65 (F := Ideal) x0 x1 (ix2 b n)) (k.castLE (by decide))) := by
  unfold val_main_values
  generalize val_main_v65 (F := Ideal) x0 x1 = y
  show extractStridedSlice (s := S256x10000) S256x5 (fun _ => 0) (Host.sort2 S256x10000 1
    (fun l r => FloatOps.cmpfTotal (F := Ideal) (φ := .f32) .gt l.1 r.1) y
    (fun i => if hd : 1 < S256x10000.rank then iotaInDim S256x10000 32 ⟨1, hd⟩ i else 0#32)).1 sliceFits_S256x10000_S256x5 (ix2 b k) = _
  rw [extractStridedSlice_apply _ _ _ _ (ix2 b (k.castLE (by decide))) (fun a => by match a with | ⟨0, _⟩ => exact (Nat.zero_add _).symm | ⟨1, _⟩ => exact (Nat.zero_add _).symm)]
  have al : ∀ (k' n : Fin 10000), Shape.Idx.along (s := S256x10000) (ix2 b k') 1 n = ix2 b n := fun k' n => by
    rw [eq_ix2 (Shape.Idx.along (s := S256x10000) (ix2 b k') 1 n)]
    congr 1
  unfold Host.sort2
  rw [dif_pos (by decide)]
  generalize k.castLE (by decide : 5 ≤ 10000) = p
  refine (congrArg y (al p _)).trans ?_
  show y (ix2 b (sortedFrom (fun n n' => Ideal.cmp .ogt (y (Shape.Idx.along (s := S256x10000) (ix2 b p) 1 n))
    (y (Shape.Idx.along (s := S256x10000) (ix2 b p) 1 n')) == 1#1) p)) = y (ix2 b (sortedFrom (larger fun n => y (ix2 b n)) p))
  have e : (fun n n' : Fin 10000 => Ideal.cmp .ogt (y (Shape.Idx.along (s := S256x10000) (ix2 b p) 1 n))
      (y (Shape.Idx.along (s := S256x10000) (ix2 b p) 1 n')) == 1#1) = larger fun n => y (ix2 b n) :=
    funext fun n => funext fun n' => by rw [al, al]
  rw [e]

/-- The mean distance to the five nearest training poses. -/
theorem meanDist_apply (b : Fin 256) :
    val_main_v69 (F := Ideal) x0 x1 (ix1 b) = meanDist (poses x0) (train x1) b := by
  have h : ∀ k : Fin 5, idx_main_v67 (ix1 b) k = ix2 b k := fun k => eq_ix2 _
  rw [val_main_v69_apply, val_main_v68_apply, val_main_cst_19_apply, val_main_v67_apply, val_main_cst_18_apply]
  simp only [h, val_main_v66_apply, values_apply, Ideal.hostNegf_def, Ideal.negf_def, Ideal.hostDivf_def, Ideal.ofBits_def,
    Ideal.ofBits_zero_f32, ofBits_five, zero_add]
  rw [Ideal.div_coe (by unfold five; norm_num)]
  unfold meanDist nearest five
  simp only [dist_apply]
  rw [← ofFn_take 5 (by decide), List.map_ofFn, List.sum_ofFn]
  rfl

end Cert.Proof.ReferenceIdeal

end
-- ==== Proof.ReferenceIdeal.Loss.lean ====
/- The reference's network, and its loss. -/
module

public import proofs.«01_k».proof.Proof.ReferenceIdeal.TopK

@[expose] public section

noncomputable section

namespace Cert.Proof.ReferenceIdeal

open Cert.ReferenceIdeal Cert.ReferenceIdeal.Gen Cert.ReferenceIdeal.Read
open Idealize.ShloMosaic Idealize.ShloMosaic.TcCoe Idealize.ShloMosaic.ValueIdx
open Cert.Proof.Consts Cert.Proof.Angle Cert.Proof.Loss

/-- A matrix by its coordinates. -/
abbrev mat {m n : ℕ} (x : (⟨⟨2, ![m, n]⟩, .f32⟩ : BufTy).Contents (Elt Ideal)) (k : Fin m) (i : Fin n) : EReal := x (ix2 k i)
/-- A vector by its coordinate. -/
abbrev vec {n : ℕ} (x : (⟨⟨1, ![n]⟩, .f32⟩ : BufTy).Contents (Elt Ideal)) (i : Fin n) : EReal := x (ix1 i)

/-- A rank-one index set is its coordinate's range. -/
def idxEquiv1 (n : ℕ) : (⟨1, ![n]⟩ : Shape).Idx ≃ Fin n where
  toFun i := i 0
  invFun b := ix1 b
  left_inv i := (eq_ix1 i).symm
  right_inv _ := rfl

/-- The index of a vector's element. -/
theorem idxEquiv1_symm (n : ℕ) (b : Fin n) : (idxEquiv1 n).symm b = ix1 b := rfl

variable (x0 : (⟨S256x21x4, .f32⟩ : BufTy).Contents (Elt Ideal)) (x1 : (⟨S10000x21x4, .f32⟩ : BufTy).Contents (Elt Ideal))
  (x2 : (⟨S84x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x1, .f32⟩ : BufTy).Contents (Elt Ideal)) (x9 : (⟨S1, .f32⟩ : BufTy).Contents (Elt Ideal))

/-- The normalised poses, one row each. -/
theorem flat_apply (b : Fin 256) (i : Fin 84) : val_main_v70 (F := Ideal) x0 (ix2 b i) = flat (poses x0) b i := by
  have h : idx_main_v70 (ix2 b i) = ix3 b ⟨i.val / 4, by omega⟩ ⟨i.val % 4, by omega⟩ := by
    funext d
    have hb := b.isLt
    have hi := i.isLt
    match d with
    | ⟨0, _⟩ => exact Fin.ext (show (b.val * 84 + i.val) / 84 = b.val by omega)
    | ⟨1, _⟩ => exact Fin.ext (show (b.val * 84 + i.val) / 4 % 21 = i.val / 4 by omega)
    | ⟨2, _⟩ => exact Fin.ext (show (b.val * 84 + i.val) % 4 = i.val % 4 by omega)
  rw [val_main_v70_apply, h, unit_apply]
  rfl

/-- The first layer. -/
theorem layer0_apply (b : Fin 256) (i : Fin 512) :
    val_main_v75 (F := Ideal) x0 x2 x3 (ix2 b i) = layer (flat (poses x0)) (mat x2) (vec x3) b i := by
  have hl : ∀ k, lidx_main_v71 (ix2 b i) k = ix2 b k := fun k => eq_ix2 _
  have hr : ∀ k, ridx_main_v71 (ix2 b i) k = ix2 k i := fun k => eq_ix2 _
  have h1 : idx_main_v73 (ix2 b i) = ix2 0 i := eq_ix2 _
  have h2 : idx_main_v72 (ix2 0 i) = ix1 i := eq_ix1 _
  rw [val_main_v75_apply, val_main_v74_apply, val_main_v71_apply, val_main_v73_apply, h1, val_main_v72_apply, h2,
    val_main_call2_v0_apply, val_main_call2_cst_apply]
  simp only [hl, hr, flat_apply, Ideal.maximumf_def, Ideal.addf_def, Ideal.ofBits_def, Ideal.ofBits_zero_f32]
  rfl

/-- The second layer. -/
theorem layer1_apply (b : Fin 256) (i : Fin 512) :
    val_main_v80 (F := Ideal) x0 x2 x3 x4 x5 (ix2 b i) = layer (layer (flat (poses x0)) (mat x2) (vec x3)) (mat x4) (vec x5) b i := by
  have hl : ∀ k, lidx_main_v76 (ix2 b i) k = ix2 b k := fun k => eq_ix2 _
  have hr : ∀ k, ridx_main_v76 (ix2 b i) k = ix2 k i := fun k => eq_ix2 _
  have h1 : idx_main_v78 (ix2 b i) = ix2 0 i := eq_ix2 _
  have h2 : idx_main_v77 (ix2 0 i) = ix1 i := eq_ix1 _
  rw [val_main_v80_apply, val_main_v79_apply, val_main_v76_apply, val_main_v78_apply, h1, val_main_v77_apply, h2,
    val_main_call3_v0_apply, val_main_call3_cst_apply]
  simp only [hl, hr, layer0_apply, Ideal.maximumf_def, Ideal.addf_def, Ideal.ofBits_def, Ideal.ofBits_zero_f32]
  rfl

/-- The third layer. -/
theorem layer2_apply (b : Fin 256) (i : Fin 512) :
    val_main_v85 (F := Ideal) x0 x2 x3 x4 x5 x6 x7 (ix2 b i) = layer (layer (layer (flat (poses x0)) (mat x2) (vec x3)) (mat x4) (vec x5)) (mat x6) (vec x7) b i := by
  have hl : ∀ k, lidx_main_v81 (ix2 b i) k = ix2 b k := fun k => eq_ix2 _
  have hr : ∀ k, ridx_main_v81 (ix2 b i) k = ix2 k i := fun k => eq_ix2 _
  have h1 : idx_main_v83 (ix2 b i) = ix2 0 i := eq_ix2 _
  have h2 : idx_main_v82 (ix2 0 i) = ix1 i := eq_ix1 _
  rw [val_main_v85_apply, val_main_v84_apply, val_main_v81_apply, val_main_v83_apply, h1, val_main_v82_apply, h2,
    val_main_call4_v0_apply, val_main_call4_cst_apply]
  simp only [hl, hr, layer1_apply, Ideal.maximumf_def, Ideal.addf_def, Ideal.ofBits_def, Ideal.ofBits_zero_f32]
  rfl

/-- The predictions. -/
theorem predict_apply (b : Fin 256) :
    val_main_v90 (F := Ideal) x0 x2 x3 x4 x5 x6 x7 x8 x9 (ix1 b)
      = predict (poses x0) (mat x2) (vec x3) (mat x4) (vec x5) (mat x6) (vec x7) (mat x8) (vec x9) b := by
  have h : idx_main_v90 (ix1 b) = ix2 b 0 := by
    funext d
    match d with
    | ⟨0, _⟩ => exact Fin.ext (Nat.div_one _)
    | ⟨1, _⟩ => rfl
  have hl : ∀ k, lidx_main_v86 (ix2 b 0) k = ix2 b k := fun k => eq_ix2 _
  have hr : ∀ k, ridx_main_v86 (ix2 b 0) k = ix2 k 0 := fun k => eq_ix2 _
  have h1 : idx_main_v88 (ix2 b 0) = ix2 0 0 := eq_ix2 _
  have h2 : idx_main_v87 (ix2 0 0) = ix1 0 := eq_ix1 _
  rw [val_main_v90_apply, h, val_main_v89_apply, val_main_v86_apply, val_main_v88_apply, h1, val_main_v87_apply, h2]
  simp only [hl, hr, layer2_apply, Ideal.addf_def]
  rfl

/-- THE REFERENCE'S RESULT: the mean absolute difference of the predictions and the mean distances. -/
theorem loss_apply (i : S_.Idx) :
    val_main_v94 (F := Ideal) x0 x1 x2 x3 x4 x5 x6 x7 x8 x9 i
      = loss (predict (poses x0) (mat x2) (vec x3) (mat x4) (vec x5) (mat x6) (vec x7) (mat x8) (vec x9))
          (meanDist (poses x0) (train x1)) := by
  rw [val_main_v94_apply, val_main_v93_apply, val_main_cst_20_apply, val_main_cst_21_apply,
    ← Equiv.sum_comp (idxEquiv1 256).symm]
  simp only [idxEquiv1_symm, val_main_v92_apply, val_main_v91_apply, predict_apply, meanDist_apply, Ideal.hostAbsf_def, Ideal.absf_def,
    Ideal.subf_def, Ideal.hostDivf_def, Ideal.ofBits_def, Ideal.ofBits_zero_f32, ofBits_n256, zero_add]
  rw [Ideal.div_coe (by unfold n256; norm_num)]
  unfold loss n256
  rfl

end Cert.Proof.ReferenceIdeal

end
-- ==== Proof.ReferenceIdeal.Run.lean ====
/- The reference's run: the arguments end as launched and every semaphore counter at zero. -/
module

public import proofs.«01_k».proof.Proof.Gen.ReferenceIdeal.Run
public import proofs.«01_k».proof.Proof.Gen.ReferenceIdeal.Read
public import proofs.«01_k».proof.Proof.ReferenceIdeal.Loss
public import Idealize.ShloMosaic.Lib.Quiescent

@[expose] public section

noncomputable section

namespace Cert.Proof.ReferenceIdeal

open Cert.ReferenceIdeal
open Idealize.ShloMosaic Idealize.ShloMosaic.TcCoe Idealize.SL.Sem

/-- Every argument ends as launched and every semaphore counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, sem_eq_zero_of_no_sems rfl r.2⟩) (Value.run m ρ)

end Cert.Proof.ReferenceIdeal

end
-- ==== Proof.lean ====
/- The proof of the certificate's claim: the frames of the kernel, its idealization and the reference, the naming of the
   constants, and the equality of the kernel's and the reference's results over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Result
public import proofs.«01_k».proof.Proof.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The reference's result is the loss that the kernel's run ends with, from memories agreeing on the arguments. -/
theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v94 m' c = fun _ => KernelIdeal.lossOf m c := by
  obtain ⟨h0, h1, h2, h3, h4, h5, h6, h7, h8, h9⟩ := h
  rw [Cert.ReferenceIdeal.Read.val_main_v94_eq, h0, h1, h2, h3, h4, h5, h6, h7, h8, h9]
  funext i
  exact ReferenceIdeal.loss_apply _ _ _ _ _ _ _ _ _ _ i

/-- The certificate's claim: the three programs run without fault and leave their arguments and counters, the idealized
    kernel is the kernel with its two rounded constants named, and it computes the reference's loss. -/
theorem claim : Cert.Claim :=
  ⟨Cert.Kernel.Gen.facts, Cert.KernelIdeal.Gen.facts, Cert.ReferenceIdeal.Gen.facts,
    fun m ρ _ => Kernel.frame m ρ,
    fun m ρ _ => KernelIdeal.frame m ρ,
    fun m ρ _ => ReferenceIdeal.frame m ρ,
    ⟨IdealRules.named_const.statement Cert.KernelIdeal.κ "eps_sq" .f32 0x179ABE15#32 ((5316911940649 / 5316911983139663491615228241121378304 : ℝ) : EReal) rfl,
      IdealRules.named_const.statement Cert.KernelIdeal.κ "fifth" .f32 0x3E4CCCCD#32 ((1 / 5 : ℝ) : EReal) rfl⟩,
    fun m ρ m' ρ' _ h => ⟨fun c _ => KernelIdeal.lossOf m c, KernelIdeal.run m ρ,
      (θ_run _ _ _).mono (fun _ hr c => ⟨(hr c).1.trans (results_equal m m' c (h c)), (hr c).2⟩) (Cert.ReferenceIdeal.Value.run m' ρ')⟩⟩

end Cert.Proof

end
